-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  IdealRules.named_const.Statement Cert.KernelIdeal.κ "s" .f32 0x3E64F92E#32 ((2097152 / 9378749 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v185) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2044x820 : Shape := ⟨3, ![2, 2044, 820]⟩
abbrev S820 : Shape := ⟨1, ![820]⟩
abbrev S820x820 : Shape := ⟨2, ![820, 820]⟩
abbrev S10x140 : Shape := ⟨2, ![10, 140]⟩
abbrev S10 : Shape := ⟨1, ![10]⟩
abbrev S20x10 : Shape := ⟨2, ![20, 10]⟩
abbrev S20 : Shape := ⟨1, ![20]⟩
abbrev S3x20 : Shape := ⟨2, ![3, 20]⟩
abbrev S3 : Shape := ⟨1, ![3]⟩
abbrev S2304x820 : Shape := ⟨2, ![2304, 820]⟩
abbrev S820x2304 : Shape := ⟨2, ![820, 2304]⟩
abbrev S1x820 : Shape := ⟨2, ![1, 820]⟩
abbrev S820x1 : Shape := ⟨2, ![820, 1]⟩
abbrev S2x820x2044 : Shape := ⟨3, ![2, 820, 2044]⟩
abbrev S1x2044x820 : Shape := ⟨3, ![1, 2044, 820]⟩
abbrev S1x820x2044 : Shape := ⟨3, ![1, 820, 2044]⟩
abbrev S2044x820 : Shape := ⟨2, ![2044, 820]⟩
abbrev S2044 : Shape := ⟨1, ![2044]⟩
abbrev S2044x1 : Shape := ⟨2, ![2044, 1]⟩
abbrev S820x2044 : Shape := ⟨2, ![820, 2044]⟩
abbrev S2x41x20x2044 : Shape := ⟨4, ![2, 41, 20, 2044]⟩
abbrev S2x41x2044x20 : Shape := ⟨4, ![2, 41, 2044, 20]⟩
abbrev S2x41x292x140 : Shape := ⟨4, ![2, 41, 292, 140]⟩
abbrev S1x10 : Shape := ⟨2, ![1, 10]⟩
abbrev S1x20 : Shape := ⟨2, ![1, 20]⟩
abbrev S3x1 : Shape := ⟨2, ![3, 1]⟩
abbrev S2x1x20x2044 : Shape := ⟨4, ![2, 1, 20, 2044]⟩
abbrev S2x1x292x140 : Shape := ⟨4, ![2, 1, 292, 140]⟩
abbrev S1x1x20x2044 : Shape := ⟨4, ![1, 1, 20, 2044]⟩
abbrev S20x2044 : Shape := ⟨2, ![20, 2044]⟩
abbrev S1x1x292x140 : Shape := ⟨4, ![1, 1, 292, 140]⟩
abbrev S292x140 : Shape := ⟨2, ![292, 140]⟩
abbrev S292x10 : Shape := ⟨2, ![292, 10]⟩
abbrev S292x20 : Shape := ⟨2, ![292, 20]⟩
abbrev S292x2044 : Shape := ⟨2, ![292, 2044]⟩
abbrev S1x2044 : Shape := ⟨2, ![1, 2044]⟩
abbrev S292 : Shape := ⟨1, ![292]⟩
abbrev S292x1 : Shape := ⟨2, ![292, 1]⟩
abbrev S292x292 : Shape := ⟨2, ![292, 292]⟩
abbrev S1x292 : Shape := ⟨2, ![1, 292]⟩
abbrev S584x292 : Shape := ⟨2, ![584, 292]⟩
abbrev S584x1 : Shape := ⟨2, ![584, 1]⟩
abbrev S1x32 : Shape := ⟨2, ![1, 32]⟩
abbrev S584x32 : Shape := ⟨2, ![584, 32]⟩
abbrev S20x584 : Shape := ⟨2, ![20, 584]⟩
abbrev S20x32 : Shape := ⟨2, ![20, 32]⟩
abbrev S32x2044 : Shape := ⟨2, ![32, 2044]⟩
abbrev S20x5 : Shape := ⟨2, ![20, 5]⟩
abbrev S5x2044 : Shape := ⟨2, ![5, 2044]⟩
abbrev S3x2044 : Shape := ⟨2, ![3, 2044]⟩
abbrev S4088x820 : Shape := ⟨2, ![4088, 820]⟩
abbrev S584x820 : Shape := ⟨2, ![584, 820]⟩
abbrev S584 : Shape := ⟨1, ![584]⟩
abbrev S584x2304 : Shape := ⟨2, ![584, 2304]⟩

abbrev nBuf : Space → Nat
  | .hbm => 54
  | .vmem => 49
  | .smem => 0
  | _ => 0

abbrev bufTy : (tb : Table) → Fin (tcTables nBuf tb) → BufTy
  | .hbm, ⟨0, _⟩ => ⟨S2x2044x820, .f32⟩
  | .hbm, ⟨1, _⟩ => ⟨S820, .f32⟩
  | .hbm, ⟨2, _⟩ => ⟨S820x820, .f32⟩
  | .hbm, ⟨3, _⟩ => ⟨S820, .f32⟩
  | .hbm, ⟨4, _⟩ => ⟨S820x820, .f32⟩
  | .hbm, ⟨5, _⟩ => ⟨S820, .f32⟩
  | .hbm, ⟨6, _⟩ => ⟨S820x820, .f32⟩
  | .hbm, ⟨7, _⟩ => ⟨S820, .f32⟩
  | .hbm, ⟨8, _⟩ => ⟨S10x140, .f32⟩
  | .hbm, ⟨9, _⟩ => ⟨S10, .f32⟩
  | .hbm, ⟨10, _⟩ => ⟨S20x10, .f32⟩
  | .hbm, ⟨11, _⟩ => ⟨S20, .f32⟩
  | .hbm, ⟨12, _⟩ => ⟨S3x20, .f32⟩
  | .hbm, ⟨13, _⟩ => ⟨S3, .f32⟩
  | .hbm, ⟨14, _⟩ => ⟨S820, .f32⟩
  | .hbm, ⟨15, _⟩ => ⟨S2304x820, .f32⟩
  | .hbm, ⟨16, _⟩ => ⟨S2304x820, .f32⟩
  | .hbm, ⟨17, _⟩ => ⟨S820x2304, .f32⟩
  | .hbm, ⟨18, _⟩ => ⟨S1x820, .f32⟩
  | .hbm, ⟨19, _⟩ => ⟨S820x1, .f32⟩
  | .hbm, ⟨20, _⟩ => ⟨S2x820x2044, .f32⟩
  | .hbm, ⟨21, _⟩ => ⟨S1x820, .f32⟩
  | .hbm, ⟨22, _⟩ => ⟨S820x1, .f32⟩
  | .hbm, ⟨23, _⟩ => ⟨S2x820x2044, .f32⟩
  | .hbm, ⟨24, _⟩ => ⟨S820x820, .bf16⟩
  | .hbm, ⟨25, _⟩ => ⟨S1x820, .f32⟩
  | .hbm, ⟨26, _⟩ => ⟨S820x1, .f32⟩
  | .hbm, ⟨27, _⟩ => ⟨S2x820x2044, .bf16⟩
  | .hbm, ⟨28, _⟩ => ⟨S2x41x20x2044, .f32⟩
  | .hbm, ⟨29, _⟩ => ⟨S2x41x2044x20, .f32⟩
  | .hbm, ⟨30, _⟩ => ⟨S2x41x292x140, .f32⟩
  | .hbm, ⟨31, _⟩ => ⟨S2x41x20x2044, .bf16⟩
  | .hbm, ⟨32, _⟩ => ⟨S2x41x2044x20, .bf16⟩
  | .hbm, ⟨33, _⟩ => ⟨S2x41x292x140, .bf16⟩
  | .hbm, ⟨34, _⟩ => ⟨S2x41x20x2044, .f32⟩
  | .hbm, ⟨35, _⟩ => ⟨S2x41x20x2044, .f32⟩
  | .hbm, ⟨36, _⟩ => ⟨S2x41x20x2044, .bf16⟩
  | .hbm, ⟨37, _⟩ => ⟨S1x10, .f32⟩
  | .hbm, ⟨38, _⟩ => ⟨S1x20, .f32⟩
  | .hbm, ⟨39, _⟩ => ⟨S3x1, .f32⟩
  | .hbm, ⟨40, _⟩ => ⟨S2x41x20x2044, .f32⟩
  | .hbm, ⟨41, _⟩ => ⟨S2x820x2044, .f32⟩
  | .hbm, ⟨42, _⟩ => ⟨S2x2044x820, .f32⟩
  | .hbm, ⟨43, _⟩ => ⟨S4088x820, .f32⟩
  | .hbm, ⟨44, _⟩ => ⟨S4088x820, .f32⟩
  | .hbm, ⟨45, _⟩ => ⟨S820x2304, .f32⟩
  | .hbm, ⟨46, _⟩ => ⟨S820x2304, .bf16⟩
  | .hbm, ⟨47, _⟩ => ⟨S820x2304, .f32⟩
  | .hbm, ⟨48, _⟩ => ⟨S820x2304, .bf16⟩
  | .hbm, ⟨49, _⟩ => ⟨S2304x820, .f32⟩
  | .hbm, ⟨50, _⟩ => ⟨S2304x820, .bf16⟩
  | .hbm, ⟨51, _⟩ => ⟨S1x820, .f32⟩
  | .hbm, ⟨52, _⟩ => ⟨S4088x820, .f32⟩
  | .hbm, ⟨53, _⟩ => ⟨S2x2044x820, .f32⟩
  | .local _ .vmem, ⟨0, _⟩ => ⟨S1x2044x820, .f32⟩
  | .local _ .vmem, ⟨1, _⟩ => ⟨S1x2044x820, .f32⟩
  | .local _ .vmem, ⟨2, _⟩ => ⟨S1x820, .f32⟩
  | .local _ .vmem, ⟨3, _⟩ => ⟨S820x820, .f32⟩
  | .local _ .vmem, ⟨4, _⟩ => ⟨S820x1, .f32⟩
  | .local _ .vmem, ⟨5, _⟩ => ⟨S1x820x2044, .f32⟩
  | .local _ .vmem, ⟨6, _⟩ => ⟨S1x820x2044, .f32⟩
  | .local _ .vmem, ⟨7, _⟩ => ⟨S1x2044x820, .f32⟩
  | .local _ .vmem, ⟨8, _⟩ => ⟨S1x2044x820, .f32⟩
  | .local _ .vmem, ⟨9, _⟩ => ⟨S1x820, .f32⟩
  | .local _ .vmem, ⟨10, _⟩ => ⟨S820x820, .f32⟩
  | .local _ .vmem, ⟨11, _⟩ => ⟨S820x1, .f32⟩
  | .local _ .vmem, ⟨12, _⟩ => ⟨S1x820x2044, .f32⟩
  | .local _ .vmem, ⟨13, _⟩ => ⟨S1x820x2044, .f32⟩
  | .local _ .vmem, ⟨14, _⟩ => ⟨S1x2044x820, .f32⟩
  | .local _ .vmem, ⟨15, _⟩ => ⟨S1x2044x820, .f32⟩
  | .local _ .vmem, ⟨16, _⟩ => ⟨S1x820, .f32⟩
  | .local _ .vmem, ⟨17, _⟩ => ⟨S820x820, .bf16⟩
  | .local _ .vmem, ⟨18, _⟩ => ⟨S820x1, .f32⟩
  | .local _ .vmem, ⟨19, _⟩ => ⟨S1x820x2044, .bf16⟩
  | .local _ .vmem, ⟨20, _⟩ => ⟨S1x820x2044, .bf16⟩
  | .local _ .vmem, ⟨21, _⟩ => ⟨S2x1x20x2044, .f32⟩
  | .local _ .vmem, ⟨22, _⟩ => ⟨S2x1x20x2044, .f32⟩
  | .local _ .vmem, ⟨23, _⟩ => ⟨S2x1x20x2044, .f32⟩
  | .local _ .vmem, ⟨24, _⟩ => ⟨S2x1x20x2044, .f32⟩
  | .local _ .vmem, ⟨25, _⟩ => ⟨S2x1x20x2044, .bf16⟩
  | .local _ .vmem, ⟨26, _⟩ => ⟨S2x1x20x2044, .bf16⟩
  | .local _ .vmem, ⟨27, _⟩ => ⟨S2x1x292x140, .f32⟩
  | .local _ .vmem, ⟨28, _⟩ => ⟨S2x1x292x140, .f32⟩
  | .local _ .vmem, ⟨29, _⟩ => ⟨S2x1x292x140, .bf16⟩
  | .local _ .vmem, ⟨30, _⟩ => ⟨S2x1x292x140, .bf16⟩
  | .local _ .vmem, ⟨31, _⟩ => ⟨S10x140, .f32⟩
  | .local _ .vmem, ⟨32, _⟩ => ⟨S1x10, .f32⟩
  | .local _ .vmem, ⟨33, _⟩ => ⟨S20x10, .f32⟩
  | .local _ .vmem, ⟨34, _⟩ => ⟨S1x20, .f32⟩
  | .local _ .vmem, ⟨35, _⟩ => ⟨S3x20, .f32⟩
  | .local _ .vmem, ⟨36, _⟩ => ⟨S3x1, .f32⟩
  | .local _ .vmem, ⟨37, _⟩ => ⟨S2x1x20x2044, .f32⟩
  | .local _ .vmem, ⟨38, _⟩ => ⟨S2x1x20x2044, .f32⟩
  | .local _ .vmem, ⟨39, _⟩ => ⟨S584x820, .f32⟩
  | .local _ .vmem, ⟨40, _⟩ => ⟨S584x820, .f32⟩
  | .local _ .vmem, ⟨41, _⟩ => ⟨S584x820, .f32⟩
  | .local _ .vmem, ⟨42, _⟩ => ⟨S584x820, .f32⟩
  | .local _ .vmem, ⟨43, _⟩ => ⟨S1x820, .f32⟩
  | .local _ .vmem, ⟨44, _⟩ => ⟨S820x2304, .bf16⟩
  | .local _ .vmem, ⟨45, _⟩ => ⟨S820x2304, .bf16⟩
  | .local _ .vmem, ⟨46, _⟩ => ⟨S2304x820, .bf16⟩
  | .local _ .vmem, ⟨47, _⟩ => ⟨S584x820, .f32⟩
  | .local _ .vmem, ⟨48, _⟩ => ⟨S584x820, .f32⟩
  | _, _ => ⟨S2x2044x820, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc3_stg4_0 : Ref sig .tc := ⟨.vmem, 29, rfl⟩
abbrev cc3_stg4_1 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg8_0 : Ref sig .tc := ⟨.vmem, 34, rfl⟩
abbrev cc3_stg9_0 : Ref sig .tc := ⟨.vmem, 35, rfl⟩
abbrev cc3_stg10_0 : Ref sig .tc := ⟨.vmem, 36, rfl⟩
abbrev cc3_stg11_0 : Ref sig .tc := ⟨.vmem, 37, rfl⟩
abbrev cc3_stg11_1 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg1_1 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg6_0 : Ref sig .tc := ⟨.vmem, 47, rfl⟩
abbrev cc4_stg6_1 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem3_1 : DmaSem sig := 28
abbrev cc3_sem4_0 : DmaSem sig := 29
abbrev cc3_sem4_1 : DmaSem sig := 30
abbrev cc3_sem5_0 : DmaSem sig := 31
abbrev cc3_sem6_0 : DmaSem sig := 32
abbrev cc3_sem7_0 : DmaSem sig := 33
abbrev cc3_sem8_0 : DmaSem sig := 34
abbrev cc3_sem9_0 : DmaSem sig := 35
abbrev cc3_sem10_0 : DmaSem sig := 36
abbrev cc3_sem11_0 : DmaSem sig := 37
abbrev cc3_sem11_1 : DmaSem sig := 38
abbrev cc4_sem0_0 : DmaSem sig := 39
abbrev cc4_sem0_1 : DmaSem sig := 40
abbrev cc4_sem1_0 : DmaSem sig := 41
abbrev cc4_sem1_1 : DmaSem sig := 42
abbrev cc4_sem2_0 : DmaSem sig := 43
abbrev cc4_sem3_0 : DmaSem sig := 44
abbrev cc4_sem4_0 : DmaSem sig := 45
abbrev cc4_sem5_0 : DmaSem sig := 46
abbrev cc4_sem6_0 : DmaSem sig := 47
abbrev cc4_sem6_1 : DmaSem sig := 48

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2044x820 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x820 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S820x820 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S820x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x820x2044 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2044x820 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x820 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S820x820 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S820x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x820x2044 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![2], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x2044x820 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x820 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S820x820 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S820x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x820x2044 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![41], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc3_transform_1 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc3_transform_2 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc3_transform_3 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc3_transform_4 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage3_0 : Fin 2 → Memref sig .tc .vmem S2x1x20x2044 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2x1x20x2044 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2x1x20x2044 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2x1x292x140 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2x1x292x140 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S10x140 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x10 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S20x10 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x20 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S3x20 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S3x1 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S2x1x20x2044 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev grid4 : Pipeline.Grid := ⟨1, ![7], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S584x820 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S584x820 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x820 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S820x2304 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S820x2304 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S2304x820 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S584x820 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]
-- ==== KernelIdeal.lean ====
variable {F : FTy → Type} [FloatOps F] [Named F]
def κ : String → Option EReal := fun
  | "s" => some ((2097152 / 9378749 : ℝ) : EReal)
  | _ => none
-- ==== ReferenceIdeal.lean ====
abbrev S2x2044x820 : Shape := ⟨3, ![2, 2044, 820]⟩
abbrev S820 : Shape := ⟨1, ![820]⟩
abbrev S820x820 : Shape := ⟨2, ![820, 820]⟩
abbrev S10x140 : Shape := ⟨2, ![10, 140]⟩
abbrev S10 : Shape := ⟨1, ![10]⟩
abbrev S20x10 : Shape := ⟨2, ![20, 10]⟩
abbrev S20 : Shape := ⟨1, ![20]⟩
abbrev S3x20 : Shape := ⟨2, ![3, 20]⟩
abbrev S3 : Shape := ⟨1, ![3]⟩
abbrev S2304x820 : Shape := ⟨2, ![2304, 820]⟩
abbrev S820x2304 : Shape := ⟨2, ![820, 2304]⟩
abbrev S_ : Shape := ⟨0, ![]⟩
abbrev S2x2044 : Shape := ⟨2, ![2, 2044]⟩
abbrev S2x2044x1 : Shape := ⟨3, ![2, 2044, 1]⟩
abbrev S1x1x820 : Shape := ⟨3, ![1, 1, 820]⟩
abbrev S2x2044x41x20 : Shape := ⟨4, ![2, 2044, 41, 20]⟩
abbrev S2x41x2044x20 : Shape := ⟨4, ![2, 41, 2044, 20]⟩
abbrev S2x41x292x140 : Shape := ⟨4, ![2, 41, 292, 140]⟩
abbrev S140x10 : Shape := ⟨2, ![140, 10]⟩
abbrev S2x41x292x10 : Shape := ⟨4, ![2, 41, 292, 10]⟩
abbrev S1x1x1x10 : Shape := ⟨4, ![1, 1, 1, 10]⟩
abbrev S10x20 : Shape := ⟨2, ![10, 20]⟩
abbrev S2x41x292x20 : Shape := ⟨4, ![2, 41, 292, 20]⟩
abbrev S1x1x1x20 : Shape := ⟨4, ![1, 1, 1, 20]⟩
abbrev S2x41x2044x292 : Shape := ⟨4, ![2, 41, 2044, 292]⟩
abbrev S2x41x2044 : Shape := ⟨3, ![2, 41, 2044]⟩
abbrev S2x41x2044x1 : Shape := ⟨4, ![2, 41, 2044, 1]⟩
abbrev S2x41x292 : Shape := ⟨3, ![2, 41, 292]⟩
abbrev S2x41x16 : Shape := ⟨3, ![2, 41, 16]⟩
abbrev S2x41x1022x2x20 : Shape := ⟨5, ![2, 41, 1022, 2, 20]⟩
abbrev S2x41x16x1x1 : Shape := ⟨5, ![2, 41, 16, 1, 1]⟩
abbrev S2x41x16x2x20 : Shape := ⟨5, ![2, 41, 16, 2, 20]⟩
abbrev S2x41x16x2x20x1 : Shape := ⟨6, ![2, 41, 16, 2, 20, 1]⟩
abbrev S1 : Shape := ⟨1, ![1]⟩
abbrev S1x1x1x1x1x1 : Shape := ⟨6, ![1, 1, 1, 1, 1, 1]⟩
abbrev S2x41x32x20 : Shape := ⟨4, ![2, 41, 32, 20]⟩
abbrev S2x41x2044x32 : Shape := ⟨4, ![2, 41, 2044, 32]⟩
abbrev S2x41x5x20 : Shape := ⟨4, ![2, 41, 5, 20]⟩
abbrev S2x41x2044x5 : Shape := ⟨4, ![2, 41, 2044, 5]⟩
abbrev S20x3 : Shape := ⟨2, ![20, 3]⟩
abbrev S2x41x2044x3 : Shape := ⟨4, ![2, 41, 2044, 3]⟩
abbrev S1x1x1x3 : Shape := ⟨4, ![1, 1, 1, 3]⟩
abbrev S2x2044x2304 : Shape := ⟨3, ![2, 2044, 2304]⟩

abbrev nBuf : Space → Nat
  | .hbm => 280
  | .vmem => 0
  | .smem => 0
  | _ => 0

abbrev hbmTy0_0 (i : Nat) : BufTy := match i % 128 with
  | 0 => ⟨S2x2044x820, .f32⟩
  | 1 => ⟨S820, .f32⟩
  | 2 => ⟨S820x820, .f32⟩
  | 3 => ⟨S820, .f32⟩
  | 4 => ⟨S820x820, .f32⟩
  | 5 => ⟨S820, .f32⟩
  | 6 => ⟨S820x820, .f32⟩
  | 7 => ⟨S820, .f32⟩
  | 8 => ⟨S10x140, .f32⟩
  | 9 => ⟨S10, .f32⟩
  | 10 => ⟨S20x10, .f32⟩
  | 11 => ⟨S20, .f32⟩
  | 12 => ⟨S3x20, .f32⟩
  | 13 => ⟨S3, .f32⟩
  | 14 => ⟨S820, .f32⟩
  | 15 => ⟨S2304x820, .f32⟩
  | 16 => ⟨S2304x820, .f32⟩
  | 17 => ⟨S820x2304, .f32⟩
  | 18 => ⟨S2x2044x820, .f32⟩
  | 19 => ⟨S_, .f32⟩
  | 20 => ⟨S2x2044, .f32⟩
  | 21 => ⟨S2x2044x1, .f32⟩
  | 22 => ⟨S_, .f32⟩
  | 23 => ⟨S2x2044x1, .f32⟩
  | 24 => ⟨S2x2044x1, .f32⟩
  | 25 => ⟨S_, .f32⟩
  | 26 => ⟨S2x2044x1, .f32⟩
  | 27 => ⟨S2x2044x1, .f32⟩
  | 28 => ⟨S2x2044x1, .f32⟩
  | 29 => ⟨S2x2044x820, .f32⟩
  | 30 => ⟨S2x2044x820, .f32⟩
  | 31 => ⟨S1x1x820, .f32⟩
  | 32 => ⟨S2x2044x820, .f32⟩
  | 33 => ⟨S2x2044x820, .f32⟩
  | 34 => ⟨S820x820, .f32⟩
  | 35 => ⟨S2x2044x820, .f32⟩
  | 36 => ⟨S1x1x820, .f32⟩
  | 37 => ⟨S2x2044x820, .f32⟩
  | 38 => ⟨S2x2044x820, .f32⟩
  | 39 => ⟨S2x2044x41x20, .f32⟩
  | 40 => ⟨S2x41x2044x20, .f32⟩
  | 41 => ⟨S820x820, .f32⟩
  | 42 => ⟨S2x2044x820, .f32⟩
  | 43 => ⟨S1x1x820, .f32⟩
  | 44 => ⟨S2x2044x820, .f32⟩
  | 45 => ⟨S2x2044x820, .f32⟩
  | 46 => ⟨S2x2044x41x20, .f32⟩
  | 47 => ⟨S2x41x2044x20, .f32⟩
  | 48 => ⟨S820x820, .f32⟩
  | 49 => ⟨S2x2044x820, .f32⟩
  | 50 => ⟨S1x1x820, .f32⟩
  | 51 => ⟨S2x2044x820, .f32⟩
  | 52 => ⟨S2x2044x820, .f32⟩
  | 53 => ⟨S2x2044x41x20, .f32⟩
  | 54 => ⟨S2x41x2044x20, .f32⟩
  | 55 => ⟨S2x41x292x140, .f32⟩
  | 56 => ⟨S140x10, .f32⟩
  | 57 => ⟨S2x41x292x10, .f32⟩
  | 58 => ⟨S1x1x1x10, .f32⟩
  | 59 => ⟨S2x41x292x10, .f32⟩
  | 60 => ⟨S2x41x292x10, .f32⟩
  | 61 => ⟨S_, .f32⟩
  | 62 => ⟨S2x41x292x10, .f32⟩
  | 63 => ⟨S2x41x292x10, .f32⟩
  | 64 => ⟨S10x20, .f32⟩
  | 65 => ⟨S2x41x292x20, .f32⟩
  | 66 => ⟨S1x1x1x20, .f32⟩
  | 67 => ⟨S2x41x292x20, .f32⟩
  | 68 => ⟨S2x41x292x20, .f32⟩
  | 69 => ⟨S2x41x292x140, .f32⟩
  | 70 => ⟨S140x10, .f32⟩
  | 71 => ⟨S2x41x292x10, .f32⟩
  | 72 => ⟨S1x1x1x10, .f32⟩
  | 73 => ⟨S2x41x292x10, .f32⟩
  | 74 => ⟨S2x41x292x10, .f32⟩
  | 75 => ⟨S_, .f32⟩
  | 76 => ⟨S2x41x292x10, .f32⟩
  | 77 => ⟨S2x41x292x10, .f32⟩
  | 78 => ⟨S10x20, .f32⟩
  | 79 => ⟨S2x41x292x20, .f32⟩
  | 80 => ⟨S1x1x1x20, .f32⟩
  | 81 => ⟨S2x41x292x20, .f32⟩
  | 82 => ⟨S2x41x292x20, .f32⟩
  | 83 => ⟨S2x41x2044x292, .f32⟩
  | 84 => ⟨S_, .f32⟩
  | 85 => ⟨S2x41x2044x292, .f32⟩
  | 86 => ⟨S2x41x2044x292, .f32⟩
  | 87 => ⟨S_, .f32⟩
  | 88 => ⟨S2x41x2044, .f32⟩
  | 89 => ⟨S2x41x2044x1, .f32⟩
  | 90 => ⟨S2x41x2044x292, .f32⟩
  | 91 => ⟨S2x41x2044x292, .f32⟩
  | 92 => ⟨S2x41x2044x292, .f32⟩
  | 93 => ⟨S_, .f32⟩
  | 94 => ⟨S2x41x2044, .f32⟩
  | 95 => ⟨S2x41x2044x1, .f32⟩
  | 96 => ⟨S_, .f32⟩
  | 97 => ⟨S2x41x2044x1, .f32⟩
  | 98 => ⟨S2x41x2044x1, .f32⟩
  | 99 => ⟨S2x41x2044x292, .f32⟩
  | 100 => ⟨S2x41x2044x292, .f32⟩
  | 101 => ⟨S2x41x2044x20, .f32⟩
  | 102 => ⟨S2x41x2044x292, .f32⟩
  | 103 => ⟨S_, .f32⟩
  | 104 => ⟨S2x41x2044x292, .f32⟩
  | 105 => ⟨S2x41x2044x292, .f32⟩
  | 106 => ⟨S_, .f32⟩
  | 107 => ⟨S2x41x2044, .f32⟩
  | 108 => ⟨S2x41x2044x1, .f32⟩
  | 109 => ⟨S2x41x2044x292, .f32⟩
  | 110 => ⟨S2x41x2044x292, .f32⟩
  | 111 => ⟨S2x41x2044x292, .f32⟩
  | 112 => ⟨S_, .f32⟩
  | 113 => ⟨S2x41x2044, .f32⟩
  | 114 => ⟨S2x41x2044x1, .f32⟩
  | 115 => ⟨S_, .f32⟩
  | 116 => ⟨S2x41x2044x1, .f32⟩
  | 117 => ⟨S2x41x2044x1, .f32⟩
  | 118 => ⟨S2x41x2044x292, .f32⟩
  | 119 => ⟨S2x41x2044x292, .f32⟩
  | 120 => ⟨S_, .f32⟩
  | 121 => ⟨S2x41x292, .f32⟩
  | 122 => ⟨S2x41x16, .f32⟩
  | 123 => ⟨S2x41x16, .i32⟩
  | 124 => ⟨S2x41x1022x2x20, .f32⟩
  | 125 => ⟨S2x41x1022x2x20, .f32⟩
  | 126 => ⟨S2x41x16x1x1, .i32⟩
  | 127 => ⟨S2x41x16x2x20, .i32⟩
  | _ => ⟨S2x2044x820, .f32⟩

abbrev hbmTy0_1 (i : Nat) : BufTy := match i % 128 with
  | 0 => ⟨S_, .i32⟩
  | 1 => ⟨S2x41x16x2x20, .i32⟩
  | 2 => ⟨S2x41x16x2x20, .i1⟩
  | 3 => ⟨S_, .i32⟩
  | 4 => ⟨S2x41x16x2x20, .i32⟩
  | 5 => ⟨S2x41x16x2x20, .i32⟩
  | 6 => ⟨S2x41x16x2x20, .i32⟩
  | 7 => ⟨S2x41x16x2x20x1, .i32⟩
  | 8 => ⟨S1, .i32⟩
  | 9 => ⟨S_, .i32⟩
  | 10 => ⟨S2x41x16x2x20x1, .i32⟩
  | 11 => ⟨S2x41x16x2x20x1, .i1⟩
  | 12 => ⟨S1x1x1x1x1x1, .i32⟩
  | 13 => ⟨S2x41x16x2x20x1, .i32⟩
  | 14 => ⟨S2x41x16x2x20x1, .i1⟩
  | 15 => ⟨S2x41x16x2x20x1, .i1⟩
  | 16 => ⟨S_, .i1⟩
  | 17 => ⟨S2x41x16x2x20, .i1⟩
  | 18 => ⟨S2x41x16x2x20, .f32⟩
  | 19 => ⟨S_, .f32⟩
  | 20 => ⟨S2x41x16x2x20, .f32⟩
  | 21 => ⟨S2x41x16x2x20, .f32⟩
  | 22 => ⟨S2x41x32x20, .f32⟩
  | 23 => ⟨S_, .i32⟩
  | 24 => ⟨S2x41x16x2x20, .i32⟩
  | 25 => ⟨S2x41x16x2x20, .i1⟩
  | 26 => ⟨S_, .i32⟩
  | 27 => ⟨S2x41x16x2x20, .i32⟩
  | 28 => ⟨S2x41x16x2x20, .i32⟩
  | 29 => ⟨S2x41x16x2x20, .i32⟩
  | 30 => ⟨S2x41x16x2x20x1, .i32⟩
  | 31 => ⟨S1, .i32⟩
  | 32 => ⟨S_, .i32⟩
  | 33 => ⟨S2x41x16x2x20x1, .i32⟩
  | 34 => ⟨S2x41x16x2x20x1, .i1⟩
  | 35 => ⟨S1x1x1x1x1x1, .i32⟩
  | 36 => ⟨S2x41x16x2x20x1, .i32⟩
  | 37 => ⟨S2x41x16x2x20x1, .i1⟩
  | 38 => ⟨S2x41x16x2x20x1, .i1⟩
  | 39 => ⟨S_, .i1⟩
  | 40 => ⟨S2x41x16x2x20, .i1⟩
  | 41 => ⟨S2x41x16x2x20, .f32⟩
  | 42 => ⟨S_, .f32⟩
  | 43 => ⟨S2x41x16x2x20, .f32⟩
  | 44 => ⟨S2x41x16x2x20, .f32⟩
  | 45 => ⟨S2x41x32x20, .f32⟩
  | 46 => ⟨S2x41x2044x32, .f32⟩
  | 47 => ⟨S_, .f32⟩
  | 48 => ⟨S2x41x2044x32, .f32⟩
  | 49 => ⟨S2x41x2044x32, .f32⟩
  | 50 => ⟨S_, .f32⟩
  | 51 => ⟨S2x41x2044, .f32⟩
  | 52 => ⟨S2x41x2044x1, .f32⟩
  | 53 => ⟨S2x41x2044x32, .f32⟩
  | 54 => ⟨S2x41x2044x32, .f32⟩
  | 55 => ⟨S2x41x2044x32, .f32⟩
  | 56 => ⟨S_, .f32⟩
  | 57 => ⟨S2x41x2044, .f32⟩
  | 58 => ⟨S2x41x2044x1, .f32⟩
  | 59 => ⟨S_, .f32⟩
  | 60 => ⟨S2x41x2044x1, .f32⟩
  | 61 => ⟨S2x41x2044x1, .f32⟩
  | 62 => ⟨S2x41x2044x32, .f32⟩
  | 63 => ⟨S2x41x2044x32, .f32⟩
  | 64 => ⟨S2x41x2044x20, .f32⟩
  | 65 => ⟨S2x41x5x20, .f32⟩
  | 66 => ⟨S2x41x5x20, .f32⟩
  | 67 => ⟨S2x41x2044x5, .f32⟩
  | 68 => ⟨S_, .f32⟩
  | 69 => ⟨S2x41x2044x5, .f32⟩
  | 70 => ⟨S2x41x2044x5, .f32⟩
  | 71 => ⟨S_, .f32⟩
  | 72 => ⟨S2x41x2044, .f32⟩
  | 73 => ⟨S2x41x2044x1, .f32⟩
  | 74 => ⟨S2x41x2044x5, .f32⟩
  | 75 => ⟨S2x41x2044x5, .f32⟩
  | 76 => ⟨S2x41x2044x5, .f32⟩
  | 77 => ⟨S_, .f32⟩
  | 78 => ⟨S2x41x2044, .f32⟩
  | 79 => ⟨S2x41x2044x1, .f32⟩
  | 80 => ⟨S_, .f32⟩
  | 81 => ⟨S2x41x2044x1, .f32⟩
  | 82 => ⟨S2x41x2044x1, .f32⟩
  | 83 => ⟨S2x41x2044x5, .f32⟩
  | 84 => ⟨S2x41x2044x5, .f32⟩
  | 85 => ⟨S2x41x2044x20, .f32⟩
  | 86 => ⟨S20x3, .f32⟩
  | 87 => ⟨S2x41x2044x3, .f32⟩
  | 88 => ⟨S1x1x1x3, .f32⟩
  | 89 => ⟨S2x41x2044x3, .f32⟩
  | 90 => ⟨S2x41x2044x3, .f32⟩
  | 91 => ⟨S_, .f32⟩
  | 92 => ⟨S2x41x2044, .f32⟩
  | 93 => ⟨S2x41x2044x1, .f32⟩
  | 94 => ⟨S2x41x2044x3, .f32⟩
  | 95 => ⟨S2x41x2044x3, .f32⟩
  | 96 => ⟨S2x41x2044x3, .f32⟩
  | 97 => ⟨S_, .f32⟩
  | 98 => ⟨S2x41x2044, .f32⟩
  | 99 => ⟨S2x41x2044x1, .f32⟩
  | 100 => ⟨S_, .f32⟩
  | 101 => ⟨S2x41x2044x1, .f32⟩
  | 102 => ⟨S2x41x2044x1, .f32⟩
  | 103 => ⟨S2x41x2044x3, .f32⟩
  | 104 => ⟨S2x41x2044x3, .f32⟩
  | 105 => ⟨S2x41x2044x1, .f32⟩
  | 106 => ⟨S2x41x2044x20, .f32⟩
  | 107 => ⟨S2x41x2044x20, .f32⟩
  | 108 => ⟨S2x41x2044x1, .f32⟩
  | 109 => ⟨S2x41x2044x20, .f32⟩
  | 110 => ⟨S2x41x2044x20, .f32⟩
  | 111 => ⟨S2x41x2044x20, .f32⟩
  | 112 => ⟨S2x41x2044x1, .f32⟩
  | 113 => ⟨S2x41x2044x20, .f32⟩
  | 114 => ⟨S2x41x2044x20, .f32⟩
  | 115 => ⟨S2x41x2044x20, .f32⟩
  | 116 => ⟨S2x2044x41x20, .f32⟩
  | 117 => ⟨S2x2044x820, .f32⟩
  | 118 => ⟨S2x2044x820, .f32⟩
  | 119 => ⟨S2x2044x820, .f32⟩
  | 120 => ⟨S_, .f32⟩
  | 121 => ⟨S2x2044, .f32⟩
  | 122 => ⟨S2x2044x1, .f32⟩
  | 123 => ⟨S_, .f32⟩
  | 124 => ⟨S2x2044x1, .f32⟩
  | 125 => ⟨S2x2044x1, .f32⟩
  | 126 => ⟨S_, .f32⟩
  | 127 => ⟨S2x2044x1, .f32⟩
  | _ => ⟨S2x2044x820, .f32⟩

abbrev hbmTy0_2 (i : Nat) : BufTy := match i % 128 with
  | 0 => ⟨S2x2044x1, .f32⟩
  | 1 => ⟨S2x2044x1, .f32⟩
  | 2 => ⟨S2x2044x820, .f32⟩
  | 3 => ⟨S2x2044x820, .f32⟩
  | 4 => ⟨S1x1x820, .f32⟩
  | 5 => ⟨S2x2044x820, .f32⟩
  | 6 => ⟨S2x2044x820, .f32⟩
  | 7 => ⟨S820x2304, .f32⟩
  | 8 => ⟨S2x2044x2304, .f32⟩
  | 9 => ⟨S820x2304, .f32⟩
  | 10 => ⟨S2x2044x2304, .f32⟩
  | 11 => ⟨S2x2044x2304, .f32⟩
  | 12 => ⟨S2x2044x2304, .f32⟩
  | 13 => ⟨S_, .f32⟩
  | 14 => ⟨S2x2044x2304, .f32⟩
  | 15 => ⟨S2x2044x2304, .f32⟩
  | 16 => ⟨S_, .f32⟩
  | 17 => ⟨S2x2044x2304, .f32⟩
  | 18 => ⟨S2x2044x2304, .f32⟩
  | 19 => ⟨S2x2044x2304, .f32⟩
  | 20 => ⟨S2x2044x2304, .f32⟩
  | 21 => ⟨S2304x820, .f32⟩
  | 22 => ⟨S2x2044x820, .f32⟩
  | 23 => ⟨S2x2044x820, .f32⟩
  | _ => ⟨S2x2044x820, .f32⟩

abbrev hbmTy (i : Nat) : BufTy := match i / 128 with
  | 0 => hbmTy0_0 i
  | 1 => hbmTy0_1 i
  | 2 => hbmTy0_2 i
  | _ => ⟨S2x2044x820, .f32⟩

abbrev bufTy : (tb : Table) → Fin (tcTables nBuf tb) → BufTy
  | .hbm, ⟨i, _⟩ => hbmTy i
  | _, _ => ⟨S2x2044x820, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_cst_0 : Ref sig .tc := ⟨.hbm, 22, rfl⟩
abbrev main_v3 : Ref sig .tc := ⟨.hbm, 23, rfl⟩
abbrev main_v4 : Ref sig .tc := ⟨.hbm, 24, rfl⟩
abbrev main_cst_1 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_call0_cst : Ref sig .tc := ⟨.hbm, 61, rfl⟩
abbrev main_call0_v0 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call1_cst : Ref sig .tc := ⟨.hbm, 75, rfl⟩
abbrev main_call1_v0 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_2 : Ref sig .tc := ⟨.hbm, 84, rfl⟩
abbrev main_v59 : Ref sig .tc := ⟨.hbm, 85, rfl⟩
abbrev main_v60 : Ref sig .tc := ⟨.hbm, 86, rfl⟩
abbrev main_cst_3 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_4 : Ref sig .tc := ⟨.hbm, 93, rfl⟩
abbrev main_v66 : Ref sig .tc := ⟨.hbm, 94, rfl⟩
abbrev main_v67 : Ref sig .tc := ⟨.hbm, 95, rfl⟩
abbrev main_cst_5 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_6 : Ref sig .tc := ⟨.hbm, 103, rfl⟩
abbrev main_v74 : Ref sig .tc := ⟨.hbm, 104, rfl⟩
abbrev main_v75 : Ref sig .tc := ⟨.hbm, 105, rfl⟩
abbrev main_cst_7 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_8 : Ref sig .tc := ⟨.hbm, 112, rfl⟩
abbrev main_v81 : Ref sig .tc := ⟨.hbm, 113, rfl⟩
abbrev main_v82 : Ref sig .tc := ⟨.hbm, 114, rfl⟩
abbrev main_cst_9 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_10 : Ref sig .tc := ⟨.hbm, 120, rfl⟩
abbrev main_v87 : Ref sig .tc := ⟨.hbm, 121, rfl⟩
abbrev main_values : Ref sig .tc := ⟨.hbm, 122, rfl⟩
abbrev main_indices : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_call2_c : Ref sig .tc := ⟨.hbm, 128, rfl⟩
abbrev main_call2_v0 : Ref sig .tc := ⟨.hbm, 129, rfl⟩
abbrev main_call2_v1 : Ref sig .tc := ⟨.hbm, 130, rfl⟩
abbrev main_call2_c_0 : Ref sig .tc := ⟨.hbm, 131, rfl⟩
abbrev main_call2_v2 : Ref sig .tc := ⟨.hbm, 132, rfl⟩
abbrev main_call2_v3 : Ref sig .tc := ⟨.hbm, 133, rfl⟩
abbrev main_call2_v4 : Ref sig .tc := ⟨.hbm, 134, rfl⟩
abbrev main_call2_v5 : Ref sig .tc := ⟨.hbm, 135, rfl⟩
abbrev main_call2_c_1 : Ref sig .tc := ⟨.hbm, 136, rfl⟩
abbrev main_call2_c_2 : Ref sig .tc := ⟨.hbm, 137, rfl⟩
abbrev main_call2_v6 : Ref sig .tc := ⟨.hbm, 138, rfl⟩
abbrev main_call2_v7 : Ref sig .tc := ⟨.hbm, 139, rfl⟩
abbrev main_call2_v8 : Ref sig .tc := ⟨.hbm, 140, rfl⟩
abbrev main_call2_v9 : Ref sig .tc := ⟨.hbm, 141, rfl⟩
abbrev main_call2_v10 : Ref sig .tc := ⟨.hbm, 142, rfl⟩
abbrev main_call2_v11 : Ref sig .tc := ⟨.hbm, 143, rfl⟩
abbrev main_call2_c_3 : Ref sig .tc := ⟨.hbm, 144, rfl⟩
abbrev main_call2_v12 : Ref sig .tc := ⟨.hbm, 145, rfl⟩
abbrev main_call2_v13 : Ref sig .tc := ⟨.hbm, 146, rfl⟩
abbrev main_call2_cst : Ref sig .tc := ⟨.hbm, 147, rfl⟩
abbrev main_call2_v14 : Ref sig .tc := ⟨.hbm, 148, rfl⟩
abbrev main_v92 : Ref sig .tc := ⟨.hbm, 149, rfl⟩
abbrev main_v93 : Ref sig .tc := ⟨.hbm, 150, rfl⟩
abbrev main_call3_c : Ref sig .tc := ⟨.hbm, 151, rfl⟩
abbrev main_call3_v0 : Ref sig .tc := ⟨.hbm, 152, rfl⟩
abbrev main_call3_v1 : Ref sig .tc := ⟨.hbm, 153, rfl⟩
abbrev main_call3_c_0 : Ref sig .tc := ⟨.hbm, 154, rfl⟩
abbrev main_call3_v2 : Ref sig .tc := ⟨.hbm, 155, rfl⟩
abbrev main_call3_v3 : Ref sig .tc := ⟨.hbm, 156, rfl⟩
abbrev main_call3_v4 : Ref sig .tc := ⟨.hbm, 157, rfl⟩
abbrev main_call3_v5 : Ref sig .tc := ⟨.hbm, 158, rfl⟩
abbrev main_call3_c_1 : Ref sig .tc := ⟨.hbm, 159, rfl⟩
abbrev main_call3_c_2 : Ref sig .tc := ⟨.hbm, 160, rfl⟩
abbrev main_call3_v6 : Ref sig .tc := ⟨.hbm, 161, rfl⟩
abbrev main_call3_v7 : Ref sig .tc := ⟨.hbm, 162, rfl⟩
abbrev main_call3_v8 : Ref sig .tc := ⟨.hbm, 163, rfl⟩
abbrev main_call3_v9 : Ref sig .tc := ⟨.hbm, 164, rfl⟩
abbrev main_call3_v10 : Ref sig .tc := ⟨.hbm, 165, rfl⟩
abbrev main_call3_v11 : Ref sig .tc := ⟨.hbm, 166, rfl⟩
abbrev main_call3_c_3 : Ref sig .tc := ⟨.hbm, 167, rfl⟩
abbrev main_call3_v12 : Ref sig .tc := ⟨.hbm, 168, rfl⟩
abbrev main_call3_v13 : Ref sig .tc := ⟨.hbm, 169, rfl⟩
abbrev main_call3_cst : Ref sig .tc := ⟨.hbm, 170, rfl⟩
abbrev main_call3_v14 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_cst_11 : Ref sig .tc := ⟨.hbm, 175, rfl⟩
abbrev main_v97 : Ref sig .tc := ⟨.hbm, 176, rfl⟩
abbrev main_v98 : Ref sig .tc := ⟨.hbm, 177, rfl⟩
abbrev main_cst_12 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_cst_13 : Ref sig .tc := ⟨.hbm, 184, rfl⟩
abbrev main_v104 : Ref sig .tc := ⟨.hbm, 185, rfl⟩
abbrev main_v105 : Ref sig .tc := ⟨.hbm, 186, rfl⟩
abbrev main_cst_14 : Ref sig .tc := ⟨.hbm, 187, rfl⟩
abbrev main_v106 : Ref sig .tc := ⟨.hbm, 188, rfl⟩
abbrev main_v107 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_v112 : Ref sig .tc := ⟨.hbm, 194, rfl⟩
abbrev main_v113 : Ref sig .tc := ⟨.hbm, 195, rfl⟩
abbrev main_cst_15 : Ref sig .tc := ⟨.hbm, 196, rfl⟩
abbrev main_v114 : Ref sig .tc := ⟨.hbm, 197, rfl⟩
abbrev main_v115 : Ref sig .tc := ⟨.hbm, 198, rfl⟩
abbrev main_cst_16 : Ref sig .tc := ⟨.hbm, 199, rfl⟩
abbrev main_v116 : Ref sig .tc := ⟨.hbm, 200, rfl⟩
abbrev main_v117 : Ref sig .tc := ⟨.hbm, 201, rfl⟩
abbrev main_v118 : Ref sig .tc := ⟨.hbm, 202, rfl⟩
abbrev main_v119 : Ref sig .tc := ⟨.hbm, 203, rfl⟩
abbrev main_v120 : Ref sig .tc := ⟨.hbm, 204, rfl⟩
abbrev main_cst_17 : Ref sig .tc := ⟨.hbm, 205, rfl⟩
abbrev main_v121 : Ref sig .tc := ⟨.hbm, 206, rfl⟩
abbrev main_v122 : Ref sig .tc := ⟨.hbm, 207, rfl⟩
abbrev main_cst_18 : Ref sig .tc := ⟨.hbm, 208, rfl⟩
abbrev main_v123 : Ref sig .tc := ⟨.hbm, 209, rfl⟩
abbrev main_v124 : Ref sig .tc := ⟨.hbm, 210, rfl⟩
abbrev main_v125 : Ref sig .tc := ⟨.hbm, 211, rfl⟩
abbrev main_v126 : Ref sig .tc := ⟨.hbm, 212, rfl⟩
abbrev main_v127 : Ref sig .tc := ⟨.hbm, 213, rfl⟩
abbrev main_v128 : Ref sig .tc := ⟨.hbm, 214, rfl⟩
abbrev main_v129 : Ref sig .tc := ⟨.hbm, 215, rfl⟩
abbrev main_v130 : Ref sig .tc := ⟨.hbm, 216, rfl⟩
abbrev main_v131 : Ref sig .tc := ⟨.hbm, 217, rfl⟩
abbrev main_v132 : Ref sig .tc := ⟨.hbm, 218, rfl⟩
abbrev main_cst_19 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_v136 : Ref sig .tc := ⟨.hbm, 223, rfl⟩
abbrev main_v137 : Ref sig .tc := ⟨.hbm, 224, rfl⟩
abbrev main_cst_20 : Ref sig .tc := ⟨.hbm, 225, rfl⟩
abbrev main_v138 : Ref sig .tc := ⟨.hbm, 226, rfl⟩
abbrev main_v139 : Ref sig .tc := ⟨.hbm, 227, rfl⟩
abbrev main_cst_21 : Ref sig .tc := ⟨.hbm, 228, rfl⟩
abbrev main_v140 : Ref sig .tc := ⟨.hbm, 229, rfl⟩
abbrev main_v141 : Ref sig .tc := ⟨.hbm, 230, rfl⟩
abbrev main_v142 : Ref sig .tc := ⟨.hbm, 231, rfl⟩
abbrev main_v143 : Ref sig .tc := ⟨.hbm, 232, rfl⟩
abbrev main_v144 : Ref sig .tc := ⟨.hbm, 233, rfl⟩
abbrev main_v145 : Ref sig .tc := ⟨.hbm, 234, rfl⟩
abbrev main_v146 : Ref sig .tc := ⟨.hbm, 235, rfl⟩
abbrev main_v147 : Ref sig .tc := ⟨.hbm, 236, rfl⟩
abbrev main_v148 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_v152 : Ref sig .tc := ⟨.hbm, 241, rfl⟩
abbrev main_v153 : Ref sig .tc := ⟨.hbm, 242, rfl⟩
abbrev main_v154 : Ref sig .tc := ⟨.hbm, 243, rfl⟩
abbrev main_v155 : Ref sig .tc := ⟨.hbm, 244, rfl⟩
abbrev main_v156 : Ref sig .tc := ⟨.hbm, 245, rfl⟩
abbrev main_v157 : Ref sig .tc := ⟨.hbm, 246, rfl⟩
abbrev main_v158 : Ref sig .tc := ⟨.hbm, 247, rfl⟩
abbrev main_cst_22 : Ref sig .tc := ⟨.hbm, 248, rfl⟩
abbrev main_v159 : Ref sig .tc := ⟨.hbm, 249, rfl⟩
abbrev main_v160 : Ref sig .tc := ⟨.hbm, 250, rfl⟩
abbrev main_cst_23 : Ref sig .tc := ⟨.hbm, 251, rfl⟩
abbrev main_v161 : Ref sig .tc := ⟨.hbm, 252, rfl⟩
abbrev main_v162 : Ref sig .tc := ⟨.hbm, 253, rfl⟩
abbrev main_cst_24 : Ref sig .tc := ⟨.hbm, 254, rfl⟩
abbrev main_v163 : Ref sig .tc := ⟨.hbm, 255, rfl⟩
abbrev main_v164 : Ref sig .tc := ⟨.hbm, 256, rfl⟩
abbrev main_v165 : Ref sig .tc := ⟨.hbm, 257, rfl⟩
abbrev main_v166 : Ref sig .tc := ⟨.hbm, 258, rfl⟩
abbrev main_v167 : Ref sig .tc := ⟨.hbm, 259, rfl⟩
abbrev main_v168 : Ref sig .tc := ⟨.hbm, 260, rfl⟩
abbrev main_v169 : Ref sig .tc := ⟨.hbm, 261, rfl⟩
abbrev main_v170 : Ref sig .tc := ⟨.hbm, 262, rfl⟩
abbrev main_v171 : Ref sig .tc := ⟨.hbm, 263, rfl⟩
abbrev main_v172 : Ref sig .tc := ⟨.hbm, 264, rfl⟩
abbrev main_v173 : Ref sig .tc := ⟨.hbm, 265, rfl⟩
abbrev main_v174 : Ref sig .tc := ⟨.hbm, 266, rfl⟩
abbrev main_v175 : Ref sig .tc := ⟨.hbm, 267, rfl⟩
abbrev main_v176 : Ref sig .tc := ⟨.hbm, 268, rfl⟩
abbrev main_cst_25 : Ref sig .tc := ⟨.hbm, 269, rfl⟩
abbrev main_v177 : Ref sig .tc := ⟨.hbm, 270, rfl⟩
abbrev main_v178 : Ref sig .tc := ⟨.hbm, 271, rfl⟩
abbrev main_cst_26 : Ref sig .tc := ⟨.hbm, 272, rfl⟩
abbrev main_v179 : Ref sig .tc := ⟨.hbm, 273, rfl⟩
abbrev main_v180 : Ref sig .tc := ⟨.hbm, 274, rfl⟩
abbrev main_v181 : Ref sig .tc := ⟨.hbm, 275, rfl⟩
abbrev main_v182 : Ref sig .tc := ⟨.hbm, 276, rfl⟩
abbrev main_v183 : Ref sig .tc := ⟨.hbm, 277, rfl⟩
abbrev main_v184 : Ref sig .tc := ⟨.hbm, 278, rfl⟩
abbrev main_v185 : Ref sig .tc := ⟨.hbm, 279, rfl⟩

abbrev nD : Nat := 1
abbrev τ : Topo := Topo.v7x

variable {F : FTy → Type} [FloatOps F]
-- ==== Proof.Model.lean ====
/-
  What the problem computes, as functions of rows and tables of extended reals: the normed row, the three
  projections, the squeezed keys and values, the three attentions of a head with their gate, and the feed-forward
  network. Both the kernel and the reference are read as these functions.
-/
module

public import Idealize.ShloMosaic.Lib.Pointwise
public import Idealize.ShloMosaic.Lib.IdealHost

@[expose] public section

noncomputable section

namespace Cert.Proof

open Idealize.ShloMosaic

/-- The width 820 as the programs write it. -/
def width : EReal := Ideal.ofBits .f32 0x444D0000#32

/-- The small number added under the root. -/
def small : EReal := Ideal.ofBits .f32 0x358637BD#32

/-- The scale of the scores: one over 9378749 / 2097152, the nearest 32-bit float to the root of 20. -/
def scale : EReal := ((2097152 / 9378749 : ℝ) : EReal)

/-- The mean square of a row, plus the small number. -/
def spread (x : Fin 820 → EReal) : EReal := Ideal.div (∑ e, x e * x e) width + small

/-- The row divided by its root mean square, times the weights. -/
def normed (x w : Fin 820 → EReal) (e : Fin 820) : EReal := x e * Ideal.rsqrt (spread x) * w e

/-- One entry of a projection: a row of the matrix against the normed row, plus the bias. -/
def project (x w : Fin 820 → EReal) (W : Fin 820 → Fin 820 → EReal) (b : Fin 820 → EReal) (f : Fin 820) : EReal :=
  (∑ e, normed x w e * W f e) + b f

/-- The largest of the scores. -/
def peak {n : ℕ} (s : Fin n → EReal) : EReal := Finset.univ.fold max ⊥ s

/-- The exponential of a score below the largest. -/
def weight {n : ℕ} (s : Fin n → EReal) (j : Fin n) : EReal := Ideal.exp (s j - peak s)

/-- Softmax. -/
def soft {n : ℕ} (s : Fin n → EReal) (j : Fin n) : EReal := weight s j * Ideal.div 1 (∑ i, weight s i)

/-- The values averaged by the softmax of the scores. -/
def attend {n : ℕ} (s v : Fin n → EReal) : EReal := ∑ j, soft s j * v j

/-- Scaled scores of a query against keys. -/
def scores {n : ℕ} (q : Fin 20 → EReal) (k : Fin n → Fin 20 → EReal) (j : Fin n) : EReal := (∑ d, q d * k j d) * scale

/-- The two-layer network that squeezes seven rows of 20 into one row of 20. -/
def squeeze (u : Fin 292 → Fin 140 → EReal) (W1 : Fin 10 → Fin 140 → EReal) (b1 : Fin 10 → EReal)
    (W2 : Fin 20 → Fin 10 → EReal) (b2 : Fin 20 → EReal) (j : Fin 292) (d : Fin 20) : EReal :=
  (∑ c, max ((∑ p, u j p * W1 c p) + b1 c) 0 * W2 d c) + b2 d

/-- Seven consecutive rows of 20 as one row of 140. -/
def seven (t : Fin 2044 → Fin 20 → EReal) (j : Fin 292) (p : Fin 140) : EReal :=
  t ⟨7 * j.val + p.val / 20, by omega⟩ ⟨p.val % 20, by omega⟩

/-- How much attention squeezed key `j` gets from all queries together. -/
def mass (q : Fin 2044 → Fin 20 → EReal) (kc : Fin 292 → Fin 20 → EReal) (j : Fin 292) : EReal :=
  ∑ l, soft (scores (q l) kc) j

/-- Block `i` is chosen before block `j`: more mass, or equal mass and an earlier place. -/
def Before (m : Fin 292 → EReal) (i j : Fin 292) : Prop := m j < m i ∨ (m i = m j ∧ i.val < j.val)

open Classical in
/-- How many blocks are chosen before block `j`. -/
def rank (m : Fin 292 → EReal) (j : Fin 292) : ℕ := (Finset.univ.filter fun i => Before m i j).card

open Classical in
/-- The block of rank `i`. -/
def nth (m : Fin 292 → EReal) (i : ℕ) : Fin 292 := if h : ∃ j, rank m j = i then h.choose else 0

/-- The place of selected key `n`: the blocks of two rows of ranks 0 to 15, in order. -/
def pick (m : Fin 292 → EReal) (n : Fin 32) : Fin 2044 :=
  ⟨2 * (nth m (n.val / 2)).val + n.val % 2, by have := (nth m (n.val / 2)).isLt; omega⟩

/-- The last five places. -/
def late (w : Fin 5) : Fin 2044 := ⟨2039 + w.val, by omega⟩

/-- The three gate scores of a query. -/
def gate (q : Fin 20 → EReal) (Wg : Fin 3 → Fin 20 → EReal) (bg : Fin 3 → EReal) (g : Fin 3) : EReal :=
  (∑ d, q d * Wg g d) + bg g

/-- One head's attention: squeezed, selected and window attention, summed with the gate's softmax. -/
def head (q k v : Fin 2044 → Fin 20 → EReal) (kc vc : Fin 292 → Fin 20 → EReal) (Wg : Fin 3 → Fin 20 → EReal)
    (bg : Fin 3 → EReal) (l : Fin 2044) (d : Fin 20) : EReal :=
  soft (gate (q l) Wg bg) 0 * attend (scores (q l) kc) (fun j => vc j d)
    + soft (gate (q l) Wg bg) 1
      * attend (scores (q l) fun n => k (pick (mass q kc) n)) (fun n => v (pick (mass q kc) n) d)
    + soft (gate (q l) Wg bg) 2 * attend (scores (q l) fun w => k (late w)) (fun w => v (late w) d)

/-- The gated feed-forward network on a normed row. -/
def feed (x w : Fin 820 → EReal) (Wg Wu : Fin 2304 → Fin 820 → EReal) (Wd : Fin 820 → Fin 2304 → EReal)
    (e : Fin 820) : EReal :=
  ∑ f, (∑ i, normed x w i * Wg f i) * Ideal.logistic (∑ i, normed x w i * Wg f i) * (∑ i, normed x w i * Wu f i)
    * Wd e f

/-- The 18 arguments as functions of their coordinates. -/
structure Args where
  x : Fin 2 → Fin 2044 → Fin 820 → EReal
  nw : Fin 820 → EReal
  Wq : Fin 820 → Fin 820 → EReal
  bq : Fin 820 → EReal
  Wk : Fin 820 → Fin 820 → EReal
  bk : Fin 820 → EReal
  Wv : Fin 820 → Fin 820 → EReal
  bv : Fin 820 → EReal
  W1 : Fin 10 → Fin 140 → EReal
  b1 : Fin 10 → EReal
  W2 : Fin 20 → Fin 10 → EReal
  b2 : Fin 20 → EReal
  Wg : Fin 3 → Fin 20 → EReal
  bg : Fin 3 → EReal
  mw : Fin 820 → EReal
  Wa : Fin 2304 → Fin 820 → EReal
  Wu : Fin 2304 → Fin 820 → EReal
  Wd : Fin 820 → Fin 2304 → EReal

/-- Entry `d` of head `h` in a row of 820. -/
def slot (h : Fin 41) (d : Fin 20) : Fin 820 := ⟨h.val * 20 + d.val, by omega⟩

namespace Args
variable (A : Args)

def q (b : Fin 2) (h : Fin 41) (l : Fin 2044) (d : Fin 20) : EReal := project (A.x b l) A.nw A.Wq A.bq (slot h d)
def k (b : Fin 2) (h : Fin 41) (l : Fin 2044) (d : Fin 20) : EReal := project (A.x b l) A.nw A.Wk A.bk (slot h d)
def v (b : Fin 2) (h : Fin 41) (l : Fin 2044) (d : Fin 20) : EReal := project (A.x b l) A.nw A.Wv A.bv (slot h d)
def kc (b : Fin 2) (h : Fin 41) : Fin 292 → Fin 20 → EReal := squeeze (seven (A.k b h)) A.W1 A.b1 A.W2 A.b2
def vc (b : Fin 2) (h : Fin 41) : Fin 292 → Fin 20 → EReal := squeeze (seven (A.v b h)) A.W1 A.b1 A.W2 A.b2
def out (b : Fin 2) (h : Fin 41) : Fin 2044 → Fin 20 → EReal :=
  head (A.q b h) (A.k b h) (A.v b h) (A.kc b h) (A.vc b h) A.Wg A.bg

/-- The input row plus its attention. -/
def mid (b : Fin 2) (l : Fin 2044) (e : Fin 820) : EReal :=
  A.x b l e + A.out b ⟨e.val / 20, by omega⟩ l ⟨e.val % 20, by omega⟩

/-- The result. -/
def result (b : Fin 2) (l : Fin 2044) (e : Fin 820) : EReal :=
  A.mid b l e + feed (A.mid b l) A.mw A.Wa A.Wu A.Wd e

end Args

end Cert.Proof

end
-- ==== Proof.Proj.lean ====
/-
  The three projection calls: what each leaves in its result array, as a function of the arrays it reads.
-/
module

public import proofs.«01_k».proof.Proof.Gen.KernelIdeal.Frame
public import proofs.«01_k».proof.Proof.Model
public import Idealize.ShloMosaic.Lib.Pipeline.ValueKit

@[expose] public section

set_option maxRecDepth 16384

noncomputable section

namespace Cert.Proof

open Idealize.ShloMosaic Idealize.SL.Sem Cert.KernelIdeal Pipeline

variable (V : (c : Dev nD) → (b : Ref sig .tc) → Buf (Elt Ideal) ((c.tc : Thread nD τ).loc b))

/-- The query call's stored value at feature `f` of row `l` is the projection of that row. -/
theorem pay0_apply (x : Vec Ideal S1x2044x820 .f32) (w : Vec Ideal S1x820 .f32) (W : Vec Ideal S820x820 .f32)
    (b : Vec Ideal S820x1 .f32) (z : Fin 1) (f : Fin 820) (l : Fin 2044) :
    Gen.k0_pay1 x w W b (ix3 z f l)
      = project (fun e => x (ix3 0 l e)) (fun e => w (ix2 0 e)) (fun f e => W (ix2 f e)) (fun f => b (ix2 f 0)) f := by
  pointwise [Gen.k0_pay1, project, normed, spread, width, small]
  simp only [mul_comm (W _)]

/-- The query call's result array at batch, feature, row. -/
def made0 (c : Dev nD) : S2x820x2044.Idx → EReal := fun i =>
  project (fun e => V c main_arg0 (ix3 (i 0) (i 2) e)) (fun e => V c main_v0 (ix2 0 e))
    (fun f e => V c main_arg2 (ix2 f e)) (fun f => V c main_v1 (ix2 f 0)) (i 1)

/-- The query call leaves that array: each grid point writes the rows of its batch. -/
theorem region0 (c : Dev nD) : (Gen.dat0 V c).arrAt 4 cfg0.N = made0 V c := by
  refine (Gen.dat0 V c).arrAt_eq_of_covers 4 _ (by decide +kernel) fun t hf y => ?_
  blk_simp
  rw [Gen.after0_4]
  frame_out
  idx_vars y
  rw [pay0_apply]
  have e0 : ∀ t : Fin cfg0.N, win0_0.index t = ![(grid0.coords t 0).val, 0, 0] := (by decide +kernel : ∀ t : Fin grid0.N, _)
  have e1 : ∀ t : Fin cfg0.N, win0_1.index t = ![0, 0] := (by decide +kernel : ∀ t : Fin grid0.N, _)
  have e2 : ∀ t : Fin cfg0.N, win0_2.index t = ![0, 0] := (by decide +kernel : ∀ t : Fin grid0.N, _)
  have e3 : ∀ t : Fin cfg0.N, win0_3.index t = ![0, 0] := (by decide +kernel : ∀ t : Fin grid0.N, _)
  have e4 : ∀ t : Fin cfg0.N, win0_4.index t = ![(grid0.coords t 0).val, 0, 0] := (by decide +kernel : ∀ t : Fin grid0.N, _)
  unfold made0
  blk_point [Gen.iblk0, e0, e1, e2, e3, e4]

/-- The key call's stored value at feature `f` of row `l` is the projection of that row. -/
theorem pay1_apply (x : Vec Ideal S1x2044x820 .f32) (w : Vec Ideal S1x820 .f32) (W : Vec Ideal S820x820 .f32)
    (b : Vec Ideal S820x1 .f32) (z : Fin 1) (f : Fin 820) (l : Fin 2044) :
    Gen.k1_pay1 x w W b (ix3 z f l)
      = project (fun e => x (ix3 0 l e)) (fun e => w (ix2 0 e)) (fun f e => W (ix2 f e)) (fun f => b (ix2 f 0)) f := by
  pointwise [Gen.k1_pay1, project, normed, spread, width, small]
  simp only [mul_comm (W _)]

/-- The key call's result array at batch, feature, row. -/
def made1 (c : Dev nD) : S2x820x2044.Idx → EReal := fun i =>
  project (fun e => V c main_arg0 (ix3 (i 0) (i 2) e)) (fun e => V c main_v3 (ix2 0 e))
    (fun f e => V c main_arg4 (ix2 f e)) (fun f => V c main_v4 (ix2 f 0)) (i 1)

/-- The key call leaves that array: each grid point writes the rows of its batch. -/
theorem region1 (c : Dev nD) : (Gen.dat1 V c).arrAt 4 cfg1.N = made1 V c := by
  refine (Gen.dat1 V c).arrAt_eq_of_covers 4 _ (by decide +kernel) fun t hf y => ?_
  blk_simp
  rw [Gen.after1_4]
  frame_out
  idx_vars y
  rw [pay1_apply]
  have e0 : ∀ t : Fin cfg1.N, win1_0.index t = ![(grid1.coords t 0).val, 0, 0] := (by decide +kernel : ∀ t : Fin grid1.N, _)
  have e1 : ∀ t : Fin cfg1.N, win1_1.index t = ![0, 0] := (by decide +kernel : ∀ t : Fin grid1.N, _)
  have e2 : ∀ t : Fin cfg1.N, win1_2.index t = ![0, 0] := (by decide +kernel : ∀ t : Fin grid1.N, _)
  have e3 : ∀ t : Fin cfg1.N, win1_3.index t = ![0, 0] := (by decide +kernel : ∀ t : Fin grid1.N, _)
  have e4 : ∀ t : Fin cfg1.N, win1_4.index t = ![(grid1.coords t 0).val, 0, 0] := (by decide +kernel : ∀ t : Fin grid1.N, _)
  unfold made1
  blk_point [Gen.iblk1, e0, e1, e2, e3, e4]

/-- The value call's stored value at feature `f` of row `l` is the projection of that row. -/
theorem pay2_apply (x : Vec Ideal S1x2044x820 .f32) (w : Vec Ideal S1x820 .f32) (W : Vec Ideal S820x820 .bf16)
    (b : Vec Ideal S820x1 .f32) (z : Fin 1) (f : Fin 820) (l : Fin 2044) :
    Gen.k2_pay1 x w W b (ix3 z f l)
      = project (fun e => x (ix3 0 l e)) (fun e => w (ix2 0 e)) (fun f e => W (ix2 f e)) (fun f => b (ix2 f 0)) f := by
  pointwise [Gen.k2_pay1, project, normed, spread, width, small]
  simp only [mul_comm (W _)]

/-- The value call's result array at batch, feature, row. -/
def made2 (c : Dev nD) : S2x820x2044.Idx → EReal := fun i =>
  project (fun e => V c main_arg0 (ix3 (i 0) (i 2) e)) (fun e => V c main_v7 (ix2 0 e))
    (fun f e => V c main_v6 (ix2 f e)) (fun f => V c main_v8 (ix2 f 0)) (i 1)

/-- The value call leaves that array: each grid point writes the rows of its batch. -/
theorem region2 (c : Dev nD) : (Gen.dat2 V c).arrAt 4 cfg2.N = made2 V c := by
  refine (Gen.dat2 V c).arrAt_eq_of_covers 4 _ (by decide +kernel) fun t hf y => ?_
  blk_simp
  rw [Gen.after2_4]
  frame_out
  idx_vars y
  rw [pay2_apply]
  have e0 : ∀ t : Fin cfg2.N, win2_0.index t = ![(grid2.coords t 0).val, 0, 0] := (by decide +kernel : ∀ t : Fin grid2.N, _)
  have e1 : ∀ t : Fin cfg2.N, win2_1.index t = ![0, 0] := (by decide +kernel : ∀ t : Fin grid2.N, _)
  have e2 : ∀ t : Fin cfg2.N, win2_2.index t = ![0, 0] := (by decide +kernel : ∀ t : Fin grid2.N, _)
  have e3 : ∀ t : Fin cfg2.N, win2_3.index t = ![0, 0] := (by decide +kernel : ∀ t : Fin grid2.N, _)
  have e4 : ∀ t : Fin cfg2.N, win2_4.index t = ![(grid2.coords t 0).val, 0, 0] := (by decide +kernel : ∀ t : Fin grid2.N, _)
  unfold made2
  blk_point [Gen.iblk2, e0, e1, e2, e3, e4]

end Cert.Proof

end
-- ==== Proof.HostA.lean ====
/-
  The projections as the kernel program leaves them: the host operations before each projection call, and the call.
-/
module

public import proofs.«01_k».proof.Proof.Proj
public import Idealize.ShloMosaic.Lib.StableHlo.ReadAt

@[expose] public section

set_option maxRecDepth 16384

noncomputable section

namespace Cert.Proof

open Idealize.ShloMosaic Idealize.SL.Sem Cert.KernelIdeal Pipeline

/-- The kernel program's arguments, as functions of their coordinates. -/
def argsK (m : (ℓ : Loc nD τ sig) → Buf (Elt Ideal) ℓ) (c : Dev nD) : Args where
  x b l e := m ((c.tc : Thread nD τ).loc main_arg0) (ix3 b l e)
  nw e := m ((c.tc : Thread nD τ).loc main_arg1) (ix1 e)
  Wq f e := m ((c.tc : Thread nD τ).loc main_arg2) (ix2 f e)
  bq f := m ((c.tc : Thread nD τ).loc main_arg3) (ix1 f)
  Wk f e := m ((c.tc : Thread nD τ).loc main_arg4) (ix2 f e)
  bk f := m ((c.tc : Thread nD τ).loc main_arg5) (ix1 f)
  Wv f e := m ((c.tc : Thread nD τ).loc main_arg6) (ix2 f e)
  bv f := m ((c.tc : Thread nD τ).loc main_arg7) (ix1 f)
  W1 r p := m ((c.tc : Thread nD τ).loc main_arg8) (ix2 r p)
  b1 r := m ((c.tc : Thread nD τ).loc main_arg9) (ix1 r)
  W2 d r := m ((c.tc : Thread nD τ).loc main_arg10) (ix2 d r)
  b2 d := m ((c.tc : Thread nD τ).loc main_arg11) (ix1 d)
  Wg g d := m ((c.tc : Thread nD τ).loc main_arg12) (ix2 g d)
  bg g := m ((c.tc : Thread nD τ).loc main_arg13) (ix1 g)
  mw e := m ((c.tc : Thread nD τ).loc main_arg14) (ix1 e)
  Wa f e := m ((c.tc : Thread nD τ).loc main_arg15) (ix2 f e)
  Wu f e := m ((c.tc : Thread nD τ).loc main_arg16) (ix2 f e)
  Wd e f := m ((c.tc : Thread nD τ).loc main_arg17) (ix2 e f)

variable (m : (ℓ : Loc nD τ sig) → Buf (Elt Ideal) ℓ) (ρ : Dev nD → PrngReg)

/-- The norm's weights as a row, before the query call. -/
theorem q_row (c : Dev nD) (z : Fin 1) (e : Fin 820) : Gen.V1 m ρ c main_v0 (ix2 z e) = (argsK m c).nw e := by
  change StableHlo.after Gen.hostOps0 _ _ _ = _
  after_reads_at
  exact congrFun (Gen.W0_args m ρ c main_arg1 (by decide)) _

/-- The bias as a column, before the query call. -/
theorem q_column (c : Dev nD) (f : Fin 820) (z : Fin 1) : Gen.V1 m ρ c main_v1 (ix2 f z) = (argsK m c).bq f := by
  change StableHlo.after Gen.hostOps0 _ _ _ = _
  after_reads_at
  exact congrFun (Gen.W0_args m ρ c main_arg3 (by decide)) _

/-- The query call's result: the projection of each row, feature by feature. -/
theorem q_made (c : Dev nD) (b : Fin 2) (f : Fin 820) (l : Fin 2044) :
    Gen.W2 m ρ c (Proc.devRef .tc main_v2) (ix3 b f l)
      = project ((argsK m c).x b l) (argsK m c).nw (argsK m c).Wq (argsK m c).bq f := by
  have h := congrFun ((Gen.W2_arr m ρ c 4).trans (region0 (Gen.V1 m ρ) c)) (ix3 b f l)
  refine h.trans ?_
  change project _ _ _ _ _ = _
  have hx : (fun e => Gen.V1 m ρ c main_arg0 (ix3 b l e)) = (argsK m c).x b l :=
    funext fun e => congrFun (Gen.W1_args m ρ c main_arg0 (by decide)) _
  have hw : (fun e => Gen.V1 m ρ c main_v0 (ix2 0 e)) = (argsK m c).nw := funext fun e => q_row m ρ c 0 e
  have hm : (fun f e => Gen.V1 m ρ c main_arg2 (ix2 f e)) = (argsK m c).Wq :=
    funext fun f => funext fun e => congrFun (Gen.W1_args m ρ c main_arg2 (by decide)) _
  have hb : (fun f => Gen.V1 m ρ c main_v1 (ix2 f 0)) = (argsK m c).bq := funext fun f => q_column m ρ c f 0
  exact congr (congr (congr (congr (congrArg project hx) hw) hm) hb) rfl

/-- The norm's weights as a row, before the key call. -/
theorem k_row (c : Dev nD) (z : Fin 1) (e : Fin 820) : Gen.V3 m ρ c main_v3 (ix2 z e) = (argsK m c).nw e := by
  change StableHlo.after Gen.hostOps1 _ _ _ = _
  after_reads_at
  exact congrFun (Gen.W2_args m ρ c main_arg1 (by decide)) _

/-- The bias as a column, before the key call. -/
theorem k_column (c : Dev nD) (f : Fin 820) (z : Fin 1) : Gen.V3 m ρ c main_v4 (ix2 f z) = (argsK m c).bk f := by
  change StableHlo.after Gen.hostOps1 _ _ _ = _
  after_reads_at
  exact congrFun (Gen.W2_args m ρ c main_arg5 (by decide)) _

/-- The key call's result: the projection of each row, feature by feature. -/
theorem k_made (c : Dev nD) (b : Fin 2) (f : Fin 820) (l : Fin 2044) :
    Gen.W4 m ρ c (Proc.devRef .tc main_v5) (ix3 b f l)
      = project ((argsK m c).x b l) (argsK m c).nw (argsK m c).Wk (argsK m c).bk f := by
  have h := congrFun ((Gen.W4_arr m ρ c 4).trans (region1 (Gen.V3 m ρ) c)) (ix3 b f l)
  refine h.trans ?_
  change project _ _ _ _ _ = _
  have hx : (fun e => Gen.V3 m ρ c main_arg0 (ix3 b l e)) = (argsK m c).x b l :=
    funext fun e => congrFun (Gen.W3_args m ρ c main_arg0 (by decide)) _
  have hw : (fun e => Gen.V3 m ρ c main_v3 (ix2 0 e)) = (argsK m c).nw := funext fun e => k_row m ρ c 0 e
  have hm : (fun f e => Gen.V3 m ρ c main_arg4 (ix2 f e)) = (argsK m c).Wk :=
    funext fun f => funext fun e => congrFun (Gen.W3_args m ρ c main_arg4 (by decide)) _
  have hb : (fun f => Gen.V3 m ρ c main_v4 (ix2 f 0)) = (argsK m c).bk := funext fun f => k_column m ρ c f 0
  exact congr (congr (congr (congr (congrArg project hx) hw) hm) hb) rfl

/-- The norm's weights as a row, before the value call. -/
theorem v_row (c : Dev nD) (z : Fin 1) (e : Fin 820) : Gen.V5 m ρ c main_v7 (ix2 z e) = (argsK m c).nw e := by
  change StableHlo.after Gen.hostOps2 _ _ _ = _
  after_reads_at
  exact congrFun (Gen.W4_args m ρ c main_arg1 (by decide)) _

/-- The bias as a column, before the value call. -/
theorem v_column (c : Dev nD) (f : Fin 820) (z : Fin 1) : Gen.V5 m ρ c main_v8 (ix2 f z) = (argsK m c).bv f := by
  change StableHlo.after Gen.hostOps2 _ _ _ = _
  after_reads_at
  exact congrFun (Gen.W4_args m ρ c main_arg7 (by decide)) _

/-- The value matrix, narrowed, before the value call. -/
theorem v_matrix (c : Dev nD) (f e : Fin 820) : Gen.V5 m ρ c main_v6 (ix2 f e) = (argsK m c).Wv f e := by
  change StableHlo.after Gen.hostOps2 _ _ _ = _
  after_reads_at
  exact congrFun (Gen.W4_args m ρ c main_arg6 (by decide)) _

/-- The value call's result: the projection of each row, feature by feature. -/
theorem v_made (c : Dev nD) (b : Fin 2) (f : Fin 820) (l : Fin 2044) :
    Gen.W6 m ρ c (Proc.devRef .tc main_v9) (ix3 b f l)
      = project ((argsK m c).x b l) (argsK m c).nw (argsK m c).Wv (argsK m c).bv f := by
  have h := congrFun ((Gen.W6_arr m ρ c 4).trans (region2 (Gen.V5 m ρ) c)) (ix3 b f l)
  refine h.trans ?_
  change project _ _ _ _ _ = _
  have hx : (fun e => Gen.V5 m ρ c main_arg0 (ix3 b l e)) = (argsK m c).x b l :=
    funext fun e => congrFun (Gen.W5_args m ρ c main_arg0 (by decide)) _
  have hw : (fun e => Gen.V5 m ρ c main_v7 (ix2 0 e)) = (argsK m c).nw := funext fun e => v_row m ρ c 0 e
  have hm : (fun f e => Gen.V5 m ρ c main_v6 (ix2 f e)) = (argsK m c).Wv :=
    funext fun f => funext fun e => v_matrix m ρ c f e
  have hb : (fun f => Gen.V5 m ρ c main_v8 (ix2 f 0)) = (argsK m c).bv := funext fun f => v_column m ρ c f 0
  exact congr (congr (congr (congr (congrArg project hx) hw) hm) hb) rfl

end Cert.Proof

end
-- ==== Proof.Equation.lean ====
/-
  The algebra of extended reals that the two programs' spellings differ by: dividing by a root or multiplying by one
  over it, and normalising a weighted sum after or before it is taken.
-/
module

public import proofs.«01_k».proof.Proof.Model

@[expose] public section

noncomputable section

namespace Cert.Proof

open Idealize.ShloMosaic

/-! ## Softmax -/

/-- Every score is at most the largest. -/
theorem le_peak {n : ℕ} (s : Fin n → EReal) (j : Fin n) : s j ≤ peak s := by
  unfold peak
  exact (Finset.le_fold_max _).mpr (.inr ⟨j, Finset.mem_univ _, le_rfl⟩)

/-- The exponential is never negative. -/
theorem exp_nonneg (x : EReal) : 0 ≤ Ideal.exp x := by
  induction x with
  | bot => exact le_rfl
  | top => exact le_top
  | coe r => exact EReal.coe_nonneg.mpr (Real.exp_pos r).le

/-- The exponential of a number that is not above zero is at most one. -/
theorem exp_le_one (x : EReal) (h : x ≤ 0) : Ideal.exp x ≤ 1 := by
  induction x with
  | bot => exact zero_le_one
  | top => exact absurd h (by simp)
  | coe r =>
    have h' : r ≤ 0 := by exact_mod_cast h
    change ((Real.exp r : ℝ) : EReal) ≤ ((1 : ℝ) : EReal)
    exact EReal.coe_le_coe_iff.mpr (Real.exp_le_one_iff.mpr h')

/-- A difference whose second number is not the smaller one is at most zero. -/
theorem sub_le_zero (x y : EReal) (h : x ≤ y) : x - y ≤ 0 := by
  induction x with
  | bot => simp
  | top => rw [top_le_iff.mp h]; simp
  | coe r =>
    induction y with
    | bot => simp at h
    | top => simp
    | coe q =>
      have h' : r ≤ q := by exact_mod_cast h
      rw [← EReal.coe_sub]
      exact_mod_cast sub_nonpos.mpr h'

/-- A weight is never negative. -/
theorem weight_nonneg {n : ℕ} (s : Fin n → EReal) (j : Fin n) : 0 ≤ weight s j := exp_nonneg _

/-- A weight is at most one. -/
theorem weight_le_one {n : ℕ} (s : Fin n → EReal) (j : Fin n) : weight s j ≤ 1 :=
  exp_le_one _ (sub_le_zero _ _ (le_peak s j))

/-- The weights add up to a real number. -/
theorem total_ne_top {n : ℕ} (s : Fin n → EReal) : ∑ j, weight s j ≠ ⊤ := by
  have h : ∑ j, weight s j ≤ ∑ _j : Fin n, (1 : EReal) := Finset.sum_le_sum fun j _ => weight_le_one s j
  refine ne_top_of_le_ne_top ?_ h
  rw [Finset.sum_const, nsmul_one]
  exact EReal.natCast_ne_top _

/-- A sum times a real number that is not negative is the sum of the products. -/
theorem sum_mul_of_nonneg {n : ℕ} (f : Fin n → EReal) (r : EReal) (h : 0 ≤ r) (h' : r ≠ ⊤) :
    (∑ j, f j) * r = ∑ j, f j * r := by
  induction n with
  | zero => simp
  | succ n ih =>
    rw [Fin.sum_univ_succ, Fin.sum_univ_succ, ← ih fun j => f j.succ]
    exact EReal.right_distrib_of_nonneg_of_ne_top h h' _ _

/-- Averaging with the softmax, normalised after the sum is taken, as the kernel does. -/
theorem attend_eq {n : ℕ} (s v : Fin n → EReal) :
    (∑ j, v j * weight s j) * Ideal.div 1 (∑ i, weight s i) = attend s v := by
  unfold attend soft
  have hS : 0 ≤ ∑ i, weight s i := Finset.sum_nonneg fun j _ => weight_nonneg s j
  rcases hS.eq_or_lt with h0 | hpos
  · have hw : ∀ j, weight s j = 0 := fun j =>
      (Finset.sum_eq_zero_iff_of_nonneg fun i _ => weight_nonneg s i).mp h0.symm j (Finset.mem_univ _)
    simp [hw]
  · lift ∑ i, weight s i to ℝ using ⟨total_ne_top s, ne_bot_of_gt hpos⟩ with S hSeq
    have hS' : 0 < S := by exact_mod_cast hpos
    rw [Ideal.div_coe hS'.ne', one_mul,
      sum_mul_of_nonneg _ _ (EReal.coe_nonneg.mpr (one_div_pos.mpr hS').le) (EReal.coe_ne_top _)]
    refine Finset.sum_congr rfl fun j _ => ?_
    rw [mul_comm (v j), mul_right_comm]

/-! ## Roots -/

/-- The word of the nearest 32-bit float to the root of 20. -/
theorem root_word : Ideal.ofBits .f32 0x408F1BBD#32 = ((9378749 / 2097152 : ℝ) : EReal) := by
  simp [Ideal.ofBits, Ideal.ieee, -EReal.coe_mul]; norm_num

/-- Dividing by the rounded root of 20 is multiplying by the scale. -/
theorem div_root (x : EReal) : Ideal.div x (Ideal.ofBits .f32 0x408F1BBD#32) = x * scale := by
  rw [root_word, Ideal.div_coe (by norm_num), one_div, inv_div]; rfl

/-- The small number is a real number above zero. -/
theorem small_pos : ∃ r : ℝ, 0 < r ∧ small = (r : EReal) := by
  refine ⟨8796093 / 2 ^ 43, by positivity, ?_⟩
  simp [small, Ideal.ofBits, Ideal.ieee, -EReal.coe_mul]; norm_num

/-- The width is a real number above zero. -/
theorem width_pos : ∃ r : ℝ, 0 < r ∧ width = (r : EReal) := by
  refine ⟨820, by positivity, ?_⟩
  simp [width, Ideal.ofBits, Ideal.ieee, -EReal.coe_mul]; norm_num

/-- A square is never negative. -/
theorem sq_nonneg' (x : EReal) : 0 ≤ x * x := by
  induction x with
  | bot => simp
  | top => simp
  | coe r => rw [← EReal.coe_mul]; exact EReal.coe_nonneg.mpr (mul_self_nonneg r)

/-- The spread is above zero. -/
theorem spread_pos (x : Fin 820 → EReal) : 0 < spread x := by
  obtain ⟨r, hr, er⟩ := small_pos
  obtain ⟨w, hw, ew⟩ := width_pos
  unfold spread
  rw [er, ew, Ideal.div_coe hw.ne']
  have h : 0 ≤ (∑ e, x e * x e) * ((1 / w : ℝ) : EReal) :=
    mul_nonneg (Finset.sum_nonneg fun e _ => sq_nonneg' _) (EReal.coe_nonneg.mpr (one_div_pos.mpr hw).le)
  exact lt_of_lt_of_le (EReal.coe_pos.mpr hr) (le_add_of_nonneg_left h)

/-- Dividing by the root of the spread is multiplying by its inverse root. -/
theorem div_sqrt (x d : EReal) (hd : 0 < d) : Ideal.div x (Ideal.sqrt d) = x * Ideal.rsqrt d := by
  induction d with
  | bot => simp at hd
  | top =>
    change Ideal.div x ⊤ = x * 0
    simp [Ideal.div]
  | coe r =>
    have hr : 0 < r := by exact_mod_cast hd
    have h : Real.sqrt r ≠ 0 := (Real.sqrt_pos.mpr hr).ne'
    rw [show Ideal.sqrt (r : EReal) = if r < 0 then ⊥ else (Real.sqrt r : EReal) from rfl,
      show Ideal.rsqrt (r : EReal) = if r < 0 then ⊥ else if r = 0 then ⊤ else (((Real.sqrt r)⁻¹ : ℝ) : EReal) from rfl,
      if_neg (not_lt.mpr hr.le), if_neg (not_lt.mpr hr.le), if_neg hr.ne']
    rw [Ideal.div_coe h, one_div]

/-- The normed row, dividing by the root, as the reference does. -/
theorem normed_eq (x w : Fin 820 → EReal) (e : Fin 820) :
    Ideal.div (x e) (Ideal.sqrt (spread x)) * w e = normed x w e := by
  rw [div_sqrt _ _ (spread_pos x)]; rfl

end Cert.Proof

end
-- ==== Proof.Rank.lean ====
/-
  The order in which blocks are chosen: ranks are a numbering of the 292 blocks, and the block of a rank is the one
  block that has it.
-/
module

public import proofs.«01_k».proof.Proof.Model

@[expose] public section

noncomputable section

namespace Cert.Proof

variable (m : Fin 292 → EReal)

/-- No block comes before itself. -/
theorem not_before_self (i : Fin 292) : ¬ Before m i i := by
  rintro (h | h)
  · exact lt_irrefl _ h
  · exact lt_irrefl _ h.2

/-- Coming before passes on. -/
theorem Before.trans {i j k : Fin 292} (h : Before m i j) (h' : Before m j k) : Before m i k := by
  rcases h with h | ⟨h, hi⟩ <;> rcases h' with h' | ⟨h', hj⟩
  · exact .inl (h'.trans h)
  · exact .inl (h' ▸ h)
  · exact .inl (h ▸ h')
  · exact .inr ⟨h.trans h', hi.trans hj⟩

/-- Of two blocks one comes before the other. -/
theorem before_total {i j : Fin 292} (h : i ≠ j) : Before m i j ∨ Before m j i := by
  rcases lt_trichotomy (m i) (m j) with h' | h' | h'
  · exact .inr (.inl h')
  · rcases Nat.lt_or_gt_of_ne (Fin.val_ne_of_ne h) with hl | hl
    · exact .inl (.inr ⟨h', hl⟩)
    · exact .inr (.inr ⟨h'.symm, hl⟩)
  · exact .inl (.inl h')

/-- A block that comes before has the smaller rank. -/
theorem rank_lt {i j : Fin 292} (h : Before m i j) : rank m i < rank m j := by
  classical
  unfold rank
  refine Finset.card_lt_card ⟨fun k hk => ?_, fun hs => ?_⟩
  · simp only [Finset.mem_filter, Finset.mem_univ, true_and] at hk ⊢
    exact Before.trans m hk h
  · have := hs (Finset.mem_filter.mpr ⟨Finset.mem_univ i, h⟩)
    exact not_before_self m i (Finset.mem_filter.mp this).2

/-- Two blocks have different ranks. -/
theorem rank_injective : Function.Injective (rank m) := fun i j h => by
  by_contra hne
  rcases before_total m hne with h' | h'
  · exact (rank_lt m h').ne h
  · exact (rank_lt m h').ne' h

/-- Ranks are below 292. -/
theorem rank_lt_card (j : Fin 292) : rank m j < 292 := by
  classical
  have h : rank m j < (Finset.univ : Finset (Fin 292)).card :=
    Finset.card_lt_card ⟨Finset.subset_univ _, fun hs =>
      not_before_self m j (Finset.mem_filter.mp (hs (Finset.mem_univ j))).2⟩
  simpa using h

/-- Every number below 292 is the rank of a block, and `nth` finds it. -/
theorem rank_nth (i : ℕ) (hi : i < 292) : rank m (nth m i) = i := by
  have hinj : Function.Injective fun j => (⟨rank m j, rank_lt_card m j⟩ : Fin 292) := fun a b h =>
    rank_injective m (Fin.ext_iff.mp h)
  have h : ∃ j, rank m j = i := by
    obtain ⟨j, hj⟩ := (Finite.injective_iff_surjective.mp hinj) ⟨i, hi⟩
    exact ⟨j, congrArg Fin.val hj⟩
  unfold nth
  rw [dif_pos h]
  exact h.choose_spec

/-- A block is the one of its rank. -/
theorem rank_eq_iff (j : Fin 292) (i : ℕ) (hi : i < 292) : rank m j = i ↔ j = nth m i :=
  ⟨fun h => rank_injective m (h.trans (rank_nth m i hi).symm), fun h => h ▸ rank_nth m i hi⟩

/-- Row `n` is selected key `k` exactly when its block has the key's rank and its place in the block is the key's. -/
theorem pick_iff (n : Fin 584) (k : Fin 32) :
    2 * rank m ⟨n.val / 2, by omega⟩ + n.val % 2 = k.val ↔ n.val = (pick m k).val := by
  have h := rank_eq_iff m ⟨n.val / 2, by omega⟩ (k.val / 2) (by omega)
  have e : 2 * rank m ⟨n.val / 2, by omega⟩ + n.val % 2 = k.val
      ↔ rank m ⟨n.val / 2, by omega⟩ = k.val / 2 ∧ n.val % 2 = k.val % 2 := by omega
  rw [e, h, Fin.ext_iff]
  change n.val / 2 = (nth m (k.val / 2)).val ∧ n.val % 2 = k.val % 2 ↔ n.val = 2 * (nth m (k.val / 2)).val + k.val % 2
  omega

end Cert.Proof

end
-- ==== Proof.Choose.lean ====
/-
  The kernel's selection of 32 rows among 584: words that count ranks and compare them give a table of zeros and ones,
  and a product with that table reads the selected rows.
-/
module

public import proofs.«01_k».proof.Proof.Gen.KernelIdeal.Skeleton
public import proofs.«01_k».proof.Proof.Equation
public import proofs.«01_k».proof.Proof.Rank
public import Idealize.ShloMosaic.Lib.DynamicIndex

@[expose] public section

set_option maxRecDepth 16384

noncomputable section

namespace Cert.Proof

open Idealize.ShloMosaic Cert.KernelIdeal

/-- The named constant of the kernel is the scale. -/
theorem named_scale : Named.named (F := Ideal) (φ := .f32) κ "s" 0x3E64F92E#32 = scale := rfl

/-- The pattern that a maximum starts from is minus infinity. -/
theorem bits_bot : Ideal.ofBits .f32 0xFF800000#32 = ⊥ := by
  simp [Ideal.ofBits, Ideal.ieee]

/-- The pattern of two. -/
theorem bits_two : Ideal.ofBits .f32 0x40000000#32 = ((2 : ℝ) : EReal) := by
  simp [Ideal.ofBits, Ideal.ieee, -EReal.coe_mul]; norm_num

/-- A small number as a word, read as an extended real. -/
theorem word_value (n : ℕ) (h : n < 2 ^ 31) :
    FloatOps.sitofp (F := Ideal) .f32 (BitVec.ofNat 32 n) = ((n : ℝ) : EReal) := by
  change (((BitVec.ofNat 32 n).toInt : ℝ) : EReal) = _
  rw [show (BitVec.ofNat 32 n).toInt = (n : ℤ) by
    rw [BitVec.toInt_ofNat', Int.bmod_eq_of_le] <;> push_cast <;> omega]
  simp

/-- A truth value widened to a word, read as an extended real. -/
theorem truth_value (p : Bool) :
    FloatOps.sitofp (F := Ideal) .f32 (BitVec.setWidth 32 (BitVec.ofBool p)) = if p then 1 else 0 := by
  cases p
  · change (((0 : ℤ) : ℝ) : EReal) = 0; simp
  · change (((1 : ℤ) : ℝ) : EReal) = 1; simp

open Classical in
/-- Adding up truth values as words counts the true ones. -/
theorem count_words {n : ℕ} (P : Fin n → Prop) (s : Finset (Fin n)) :
    Finset.fold IntOp.addi (0#32) (fun i => BitVec.setWidth 32 (BitVec.ofBool (decide (P i)))) s
      = BitVec.ofNat 32 (s.filter P).card := by
  induction s using Finset.induction_on with
  | empty => rfl
  | insert a s ha ih =>
    rw [Finset.fold_insert ha, ih, Finset.filter_insert]
    by_cases h : P a
    · rw [if_pos h, Finset.card_insert_of_notMem (fun h' => ha (Finset.mem_filter.mp h').1)]
      simp only [h, decide_true]
      change 1#32 + _ = _
      rw [Nat.add_comm, BitVec.ofNat_add]
    · rw [if_neg h]
      simp only [h, decide_false]
      change 0#32 + _ = _
      rw [BitVec.zero_add]

/-! ## The kernel's softmax and ranks -/

/-- The kernel's weights of squeezed keys `j` for query `l`. -/
theorem pay8_apply (q : FVec Ideal S20x2044 .f32) (kc : FVec Ideal S292x20 .f32) (j : Fin 292) (l : Fin 2044) :
    Gen.k3_pay8 q kc (ix2 j l) = soft (scores (fun d => q (ix2 d l)) (fun j d => kc (ix2 j d))) j := by
  pointwise [Gen.k3_pay8, soft, weight, peak, scores, named_scale, bits_bot]
  simp only [mul_comm (q _)]

/-- How much attention the squeezed keys get, from the blocks the kernel loads. -/
def massOf (q : FVec Ideal S20x2044 .f32) (kc : FVec Ideal S292x20 .f32) : Fin 292 → EReal :=
  mass (fun l d => q (ix2 d l)) (fun j d => kc (ix2 j d))

/-- Comparing the words of two small numbers. -/
theorem slt_words (i j : Fin 292) :
    IntOp.cmpi .slt (BitVec.ofNat 32 i.val) (BitVec.ofNat 32 j.val) = BitVec.ofBool (decide (i.val < j.val)) := by
  change BitVec.ofBool (BitVec.slt (BitVec.ofNat 32 i.val) (BitVec.ofNat 32 j.val)) = _
  congr 1
  rw [BitVec.slt_eq_decide]
  rw [show (BitVec.ofNat 32 i.val).toInt = (i.val : ℤ) by
      rw [BitVec.toInt_ofNat', Int.bmod_eq_of_le] <;> push_cast <;> omega,
    show (BitVec.ofNat 32 j.val).toInt = (j.val : ℤ) by
      rw [BitVec.toInt_ofNat', Int.bmod_eq_of_le] <;> push_cast <;> omega]
  simp

open Classical in
/-- The kernel's comparison of blocks `i` and `j` is the order of choice. -/
theorem pay10_apply (q : FVec Ideal S20x2044 .f32) (kc : FVec Ideal S292x20 .f32) (j i : Fin 292) :
    Gen.k3_pay10 q kc (ix2 j i) = BitVec.ofBool (decide (Before (massOf q kc) i j)) := by
  pointwise [Gen.k3_pay10, pay8_apply, slt_words]
  change IntOp.ori (BitVec.ofBool (decide (massOf q kc j < massOf q kc i)))
    (IntOp.andi (BitVec.ofBool (decide (massOf q kc i = massOf q kc j))) _) = _
  by_cases h1 : massOf q kc j < massOf q kc i <;> by_cases h2 : massOf q kc i = massOf q kc j <;>
    by_cases h3 : i.val < j.val <;> simp [Before, h1, h2, h3] <;> rfl

/-- The kernel's ranks, as words. -/
theorem pay11_apply (q : FVec Ideal S20x2044 .f32) (kc : FVec Ideal S292x20 .f32) (j : Fin 292) (z : Fin 1) :
    Gen.k3_pay11 (Gen.k3_pay10 q kc) (ix2 j z) = BitVec.ofNat 32 (rank (massOf q kc) j) := by
  classical
  pointwise [Gen.k3_pay11]
  simp only [pay10_apply]
  exact count_words _ _

/-! ## The table -/

/-- The kernel's word for the half of a small number. -/
theorem half_word : ∀ n : Fin 584,
    Scalar.select
        (IntOp.andi
          (IntOp.cmpi .ne
            (IntOp.subi (BitVec.setWidth 32 (IntOp.cmpi .sgt (BitVec.ofNat 32 n.val) 0#32))
              (BitVec.setWidth 32 (IntOp.cmpi .slt (BitVec.ofNat 32 n.val) 0#32)))
            (Scalar.subi (Scalar.extui (Scalar.cmpi .sgt 2#32 0#32)) (Scalar.extui (Scalar.cmpi .slt 2#32 0#32))))
          (IntOp.cmpi .ne (IntOp.remsi .vector (BitVec.ofNat 32 n.val) 2#32) 0#32))
        (IntOp.subi (IntOp.divsi .vector (BitVec.ofNat 32 n.val) 2#32) 1#32)
        (IntOp.divsi .vector (BitVec.ofNat 32 n.val) 2#32)
      = BitVec.ofNat 32 (n.val / 2) := by
  decide +kernel

/-- Words of small numbers are equal when the numbers are. -/
theorem eq_words (i j : ℕ) (hi : i < 2 ^ 32) (hj : j < 2 ^ 32) :
    IntOp.cmpi .eq (BitVec.ofNat 32 i) (BitVec.ofNat 32 j) = BitVec.ofBool (decide (i = j)) := by
  change BitVec.ofBool (BitVec.ofNat 32 i == BitVec.ofNat 32 j) = _
  congr 1
  rw [Bool.eq_iff_iff, beq_iff_eq, decide_eq_true_iff]
  constructor
  · intro h
    have := congrArg BitVec.toNat h
    rwa [BitVec.toNat_ofNat, BitVec.toNat_ofNat, Nat.mod_eq_of_lt hi, Nat.mod_eq_of_lt hj] at this
  · rintro rfl; rfl

/-- The table that doubles the 292 ranks to 584 rows: a one where the row's half is the block. -/
theorem pay12_apply (n : Fin 584) (x : Fin 292) :
    Gen.k3_pay12 (F := Ideal) (ix2 n x) = if n.val / 2 = x.val then 1 else 0 := by
  pointwise [Gen.k3_pay12]
  rw [half_word, eq_words _ _ (by omega) (by omega), truth_value]
  simp

/-- The kernel's word for the remainder of a row by two. -/
theorem odd_word (n : Fin 584) (z : Fin 1) :
    Scalar.select (Gen.k3_pay14 (ix2 n z))
        (IntOp.addi (Gen.k3_pay13 (ix2 n z)) (Scalar.select (Scalar.cmpi .eq 2#32 0#32) 1#32 2#32))
        (Gen.k3_pay13 (ix2 n z))
      = BitVec.ofNat 32 (n.val % 2) := by
  pointwise [Gen.k3_pay14, Gen.k3_pay13]
  revert n
  decide +kernel

/-- The table entry of row `n` and selected key `k` is a one exactly when the key is that row. -/
theorem table (m : Fin 292 → EReal) (n : Fin 584) (k : Fin 32)
    {inst : Decidable (Ideal.ofBits .f32 0x40000000#32
          * ∑ x : Fin 292, (if n.val / 2 = x.val then 1 else 0)
              * FloatOps.sitofp (F := Ideal) .f32 (BitVec.ofNat 32 (rank m x))
        + FloatOps.sitofp (F := Ideal) .f32 (BitVec.ofNat 32 (n.val % 2))
      = FloatOps.sitofp (F := Ideal) .f32 (BitVec.ofNat 32 k.val))} :
    FloatOps.sitofp (F := Ideal) .f32 (BitVec.setWidth 32 (BitVec.ofBool (@decide _ inst)))
      = if n.val = (pick m k).val then 1 else 0 := by
  revert inst
  rw [bits_two, word_value _ (by omega), word_value _ (by omega)]
  have hs : ∑ x : Fin 292, (if n.val / 2 = x.val then (1 : EReal) else 0)
      * FloatOps.sitofp (F := Ideal) .f32 (BitVec.ofNat 32 (rank m x))
      = ((rank m ⟨n.val / 2, by omega⟩ : ℝ) : EReal) := by
    rw [Finset.sum_eq_single ⟨n.val / 2, by omega⟩]
    · rw [if_pos rfl, one_mul, word_value _ (by have := rank_lt_card m ⟨n.val / 2, by omega⟩; omega)]
    · intro x _ hx
      rw [if_neg (fun h => hx (Fin.ext h.symm)), zero_mul]
    · intro h; exact absurd (Finset.mem_univ _) h
  rw [hs, ← EReal.coe_mul, ← EReal.coe_add]
  intro inst
  rw [truth_value]
  simp only [EReal.coe_eq_coe_iff, decide_eq_true_eq]
  refine if_congr ?_ rfl rfl
  rw [← pick_iff m n k]
  norm_cast

/-- A product with the table reads the selected row. -/
theorem gather (m : Fin 292 → EReal) (k : Fin 32) (f : Fin 2044 → EReal) :
    ∑ n : Fin 584, f ⟨n.val, by omega⟩ * (if n.val = (pick m k).val then 1 else 0) = f (pick m k) := by
  have hlt : (pick m k).val < 584 := by
    have := (nth m (k.val / 2)).isLt
    change 2 * (nth m (k.val / 2)).val + k.val % 2 < 584
    omega
  rw [Finset.sum_eq_single ⟨(pick m k).val, hlt⟩]
  · rw [if_pos rfl, mul_one]
  · intro n _ hn
    rw [if_neg (fun h => hn (Fin.ext h)), mul_zero]
  · intro h; exact absurd (Finset.mem_univ _) h

/-- The largest of scores that are equal one by one. -/
theorem peak_of {n : ℕ} {s s' : Fin n → EReal} (h : ∀ j, s j = s' j) : Finset.univ.fold max ⊥ s = peak s' := by
  rw [funext h]
  rfl

/-- The kernel's selected attention. -/
theorem pay15_apply (q : FVec Ideal S20x2044 .f32) (kc : FVec Ideal S292x20 .f32) (q' : FVec Ideal S20x2044 .bf16)
    (k : FVec Ideal S20x2044 .f32) (v : FVec Ideal S20x2044 .bf16) (d : Fin 20) (l : Fin 2044) :
    Gen.k3_pay15 q' k v (Gen.k3_pay11 (Gen.k3_pay10 q kc)) (Gen.k3_pay12 (F := Ideal))
        (Scalar.select (Scalar.cmpi .eq 2#32 0#32) 1#32 2#32) Gen.k3_pay13 Gen.k3_pay14 (ix2 d l)
      = attend (scores (fun d => q' (ix2 d l)) (fun n d => k (ix2 d (pick (massOf q kc) n))))
          (fun n => v (ix2 d (pick (massOf q kc) n))) := by
  pointwise [Gen.k3_pay15, named_scale, bits_bot, pay11_apply, pay12_apply, odd_word]
  have hk : ∀ (j : Fin 32) (d : Fin 20), ∑ n : Fin 584, k (ix2 d ⟨n.val, by omega⟩)
      * (if n.val = (pick (massOf q kc) j).val then 1 else 0) = k (ix2 d (pick (massOf q kc) j)) :=
    fun j d => gather (massOf q kc) j fun n => k (ix2 d n)
  rw [peak_of (s' := scores (fun d => q' (ix2 d l)) (fun n d => k (ix2 d (pick (massOf q kc) n))))]
  · simp only [table, gather (massOf q kc) _ (fun n => v (ix2 d n)), hk]
    rw [← attend_eq]
    unfold weight scores
    simp only [mul_comm (q' _)]
  · intro j
    unfold scores
    refine congrArg (· * scale) (Finset.sum_congr rfl fun d _ => ?_)
    exact (congrArg (· * q' (ix2 d l)) ((Finset.sum_congr rfl fun n _ =>
      congrArg (k _ * ·) (table (massOf q kc) n j)).trans (hk j d))).trans (mul_comm _ _)

end Cert.Proof

end
-- ==== Proof.Attn.lean ====
/-
  The attention call: what it stores for one head of one batch is the model's head at the blocks it loads.
-/
module

public import proofs.«01_k».proof.Proof.Choose

@[expose] public section

set_option maxRecDepth 16384

noncomputable section

namespace Cert.Proof

open Idealize.ShloMosaic Cert.KernelIdeal

/-- The kernel's squeezed rows. -/
theorem pay6_apply (u : Vec Ideal S1x1x292x140 .f32) (W1 : Vec Ideal S10x140 .f32) (b1 : Vec Ideal S1x10 .f32)
    (W2 : Vec Ideal S20x10 .f32) (b2 : Vec Ideal S1x20 .f32) (j : Fin 292) (d : Fin 20) :
    Gen.k3_pay6 u W1 b1 W2 b2 (ix2 j d)
      = squeeze (fun j p => u (ix4 0 0 j p)) (fun c p => W1 (ix2 c p)) (fun c => b1 (ix2 0 c))
          (fun d c => W2 (ix2 d c)) (fun d => b2 (ix2 0 d)) j d := by
  pointwise [Gen.k3_pay6, squeeze]

/-- The kernel's attention to the squeezed keys. -/
theorem pay9_apply (q : FVec Ideal S20x2044 .f32) (kc : FVec Ideal S292x20 .f32) (u : Vec Ideal S1x1x292x140 .bf16)
    (W1 : Vec Ideal S10x140 .f32) (b1 : Vec Ideal S1x10 .f32) (W2 : Vec Ideal S20x10 .f32) (b2 : Vec Ideal S1x20 .f32)
    (d : Fin 20) (l : Fin 2044) :
    Gen.k3_pay9 q kc (Gen.k3_pay7 u) W1 b1 W2 b2 (ix2 d l)
      = attend (scores (fun d => q (ix2 d l)) (fun j d => kc (ix2 j d)))
          (fun j => squeeze (fun j p => u (ix4 0 0 j p)) (fun c p => W1 (ix2 c p)) (fun c => b1 (ix2 0 c))
            (fun d c => W2 (ix2 d c)) (fun d => b2 (ix2 0 d)) j d) := by
  pointwise [Gen.k3_pay9, Gen.k3_pay7, pay8_apply, attend, squeeze]
  exact Finset.sum_congr rfl fun j _ => mul_comm _ _

/-- The kernel's gated sum of two given attentions and the window attention. -/
theorem pay19_apply (k : FVec Ideal S20x2044 .f32) (v : FVec Ideal S20x2044 .bf16) (q' : FVec Ideal S20x2044 .bf16)
    (ac sel : FVec Ideal S20x2044 .f32) (Wg : Vec Ideal S3x20 .f32) (bg : Vec Ideal S3x1 .f32)
    (y z : Fin 1) (d : Fin 20) (l : Fin 2044) :
    Gen.k3_pay19 q' ac sel (Gen.k3_pay16 v) (Gen.k3_pay17 q' k) (Gen.k3_pay18 q' k) Wg bg (ix4 y z d l)
      = soft (gate (fun d => q' (ix2 d l)) (fun g d => Wg (ix2 g d)) (fun g => bg (ix2 g 0))) 0 * ac (ix2 d l)
        + soft (gate (fun d => q' (ix2 d l)) (fun g d => Wg (ix2 g d)) (fun g => bg (ix2 g 0))) 1 * sel (ix2 d l)
        + soft (gate (fun d => q' (ix2 d l)) (fun g d => Wg (ix2 g d)) (fun g => bg (ix2 g 0))) 2
          * attend (scores (fun d => q' (ix2 d l)) (fun w d => k (ix2 d (late w)))) (fun w => v (ix2 d (late w))) := by
  rw [← attend_eq]
  pointwise [Gen.k3_pay19, Gen.k3_pay16, Gen.k3_pay17, Gen.k3_pay18, named_scale, bits_bot, soft, weight, peak, scores,
    gate, late]
  simp only [mul_comm (q' _)]

section Whole
variable (q k : Vec Ideal S1x1x20x2044 .f32) (v : Vec Ideal S1x1x20x2044 .bf16) (uk : Vec Ideal S1x1x292x140 .f32)
  (uv : Vec Ideal S1x1x292x140 .bf16) (W1 : Vec Ideal S10x140 .f32) (b1 : Vec Ideal S1x10 .f32)
  (W2 : Vec Ideal S20x10 .f32) (b2 : Vec Ideal S1x20 .f32) (Wg : Vec Ideal S3x20 .f32) (bg : Vec Ideal S3x1 .f32)

/-- The model's head at loaded blocks. -/
def headOf (d : Fin 20) (l : Fin 2044) : EReal :=
  head (fun l d => q (ix4 0 0 d l)) (fun l d => k (ix4 0 0 d l)) (fun l d => v (ix4 0 0 d l))
    (squeeze (fun j p => uk (ix4 0 0 j p)) (fun c p => W1 (ix2 c p)) (fun c => b1 (ix2 0 c))
      (fun d c => W2 (ix2 d c)) (fun d => b2 (ix2 0 d)))
    (squeeze (fun j p => uv (ix4 0 0 j p)) (fun c p => W1 (ix2 c p)) (fun c => b1 (ix2 0 c))
      (fun d c => W2 (ix2 d c)) (fun d => b2 (ix2 0 d)))
    (fun g d => Wg (ix2 g d)) (fun g => bg (ix2 g 0)) l d

/-- The value stored for the first batch, as the kernel spells it. -/
def storedOne : FVec Ideal S1x1x20x2044 .f32 :=
  Gen.k3_pay19 (Gen.k3_pay3 q) (Gen.k3_pay9 (Gen.k3_pay2 q) (Gen.k3_pay6 uk W1 b1 W2 b2) (Gen.k3_pay7 uv) W1 b1 W2 b2)
    (Gen.k3_pay15 (Gen.k3_pay3 q) (Gen.k3_pay4 k) (Gen.k3_pay5 v)
      (Gen.k3_pay11 (Gen.k3_pay10 (Gen.k3_pay2 q) (Gen.k3_pay6 uk W1 b1 W2 b2))) (Gen.k3_pay12 (F := Ideal))
      (Scalar.select (Scalar.cmpi .eq 2#32 0#32) 1#32 2#32) Gen.k3_pay13 Gen.k3_pay14)
    (Gen.k3_pay16 (Gen.k3_pay5 v)) (Gen.k3_pay17 (Gen.k3_pay3 q) (Gen.k3_pay4 k))
    (Gen.k3_pay18 (Gen.k3_pay3 q) (Gen.k3_pay4 k)) Wg bg

/-- The value stored for the second batch, as the kernel spells it. -/
def storedTwo : FVec Ideal S1x1x20x2044 .f32 :=
  Gen.k3_pay1 (Gen.k3_pay37 (Gen.k3_pay21 q)
    (Gen.k3_pay27 (Gen.k3_pay20 q) (Gen.k3_pay24 uk W1 b1 W2 b2) (Gen.k3_pay25 uv W1) b1 W2 b2)
    (Gen.k3_pay34 (Gen.k3_pay21 q) (Gen.k3_pay22 k) (Gen.k3_pay23 v)
      (Gen.k3_pay29 (Gen.k3_pay28 (Gen.k3_pay20 q) (Gen.k3_pay24 uk W1 b1 W2 b2))) (Gen.k3_pay30 (F := Ideal))
      Gen.k3_pay31 Gen.k3_pay32 Gen.k3_pay33)
    (Gen.k3_pay35 (Gen.k3_pay23 v)) (Gen.k3_pay36 (Gen.k3_pay21 q) (Gen.k3_pay22 k)) Wg bg)

/-- The two batches are computed alike. -/
theorem stored_same : storedTwo q k v uk uv W1 b1 W2 b2 Wg bg = storedOne q k v uk uv W1 b1 W2 b2 Wg bg := rfl

/-- The stored value is the model's head. -/
theorem stored_apply (y z : Fin 1) (d : Fin 20) (l : Fin 2044) :
    storedOne q k v uk uv W1 b1 W2 b2 Wg bg (ix4 y z d l) = headOf q k v uk uv W1 b1 W2 b2 Wg bg d l := by
  have e2 : ∀ (d : Fin 20) (l : Fin 2044), Gen.k3_pay2 q (ix2 d l) = q (ix4 0 0 d l) := fun d l => by
    pointwise [Gen.k3_pay2]
  have e3 : ∀ (d : Fin 20) (l : Fin 2044), Gen.k3_pay3 q (ix2 d l) = q (ix4 0 0 d l) := fun d l => by
    pointwise [Gen.k3_pay3, Gen.k3_pay2]
  have e4 : ∀ (d : Fin 20) (l : Fin 2044), Gen.k3_pay4 k (ix2 d l) = k (ix4 0 0 d l) := fun d l => by
    pointwise [Gen.k3_pay4]
  have e5 : ∀ (d : Fin 20) (l : Fin 2044), Gen.k3_pay5 v (ix2 d l) = v (ix4 0 0 d l) := fun d l => by
    pointwise [Gen.k3_pay5]
  unfold storedOne
  rw [pay19_apply, pay9_apply, pay15_apply]
  unfold massOf
  simp only [e2, e3, e4, e5, pay6_apply]
  rfl

end Whole

end Cert.Proof

end
-- ==== Proof.AttnCall.lean ====
/-
  The attention call's result array, as a function of the arrays it reads.
-/
module

public import proofs.«01_k».proof.Proof.Gen.KernelIdeal.Frame
public import proofs.«01_k».proof.Proof.Attn
public import Idealize.ShloMosaic.Lib.Pipeline.ValueKit

@[expose] public section

set_option maxRecDepth 16384

noncomputable section

namespace Cert.Proof

open Idealize.ShloMosaic Idealize.SL.Sem Cert.KernelIdeal Pipeline

variable (V : (c : Dev nD) → (b : Ref sig .tc) → Buf (Elt Ideal) ((c.tc : Thread nD τ).loc b))

/-- The attention call's result array at batch, head, feature, row. -/
def made3 (c : Dev nD) : S2x41x20x2044.Idx → EReal := fun i =>
  head (fun l d => V c main_v16 (ix4 (i 0) (i 1) d l)) (fun l d => V c main_v17 (ix4 (i 0) (i 1) d l))
    (fun l d => V c main_v18 (ix4 (i 0) (i 1) d l))
    (squeeze (fun j p => V c main_v12 (ix4 (i 0) (i 1) j p)) (fun r p => V c main_arg8 (ix2 r p))
      (fun r => V c main_v19 (ix2 0 r)) (fun d r => V c main_arg10 (ix2 d r)) (fun d => V c main_v20 (ix2 0 d)))
    (squeeze (fun j p => V c main_v15 (ix4 (i 0) (i 1) j p)) (fun r p => V c main_arg8 (ix2 r p))
      (fun r => V c main_v19 (ix2 0 r)) (fun d r => V c main_arg10 (ix2 d r)) (fun d => V c main_v20 (ix2 0 d)))
    (fun g d => V c main_arg12 (ix2 g d)) (fun g => V c main_v21 (ix2 g 0)) (i 3) (i 2)

/-- The query block of a grid point, read at a batch. -/
theorem block0 (c : Dev nD) (t : Fin cfg3.N) (b : Fin 2) (z : Fin 1) (i : Fin 20) (j : Fin 2044) :
    Gen.iblk3 V c 0 t (ix4 b z i j) = V c main_v16 (ix4 b (grid3.coords t 0) i j) := by
  have e : ∀ t : Fin cfg3.N, win3_0.index t = ![0, (grid3.coords t 0).val, 0, 0] := (by decide +kernel : ∀ t : Fin grid3.N, _)
  blk_point [Gen.iblk3, e]

/-- The key block of a grid point, read at a batch. -/
theorem block1 (c : Dev nD) (t : Fin cfg3.N) (b : Fin 2) (z : Fin 1) (i : Fin 20) (j : Fin 2044) :
    Gen.iblk3 V c 1 t (ix4 b z i j) = V c main_v17 (ix4 b (grid3.coords t 0) i j) := by
  have e : ∀ t : Fin cfg3.N, win3_1.index t = ![0, (grid3.coords t 0).val, 0, 0] := (by decide +kernel : ∀ t : Fin grid3.N, _)
  blk_point [Gen.iblk3, e]

/-- The value block of a grid point, read at a batch. -/
theorem block2 (c : Dev nD) (t : Fin cfg3.N) (b : Fin 2) (z : Fin 1) (i : Fin 20) (j : Fin 2044) :
    Gen.iblk3 V c 2 t (ix4 b z i j) = V c main_v18 (ix4 b (grid3.coords t 0) i j) := by
  have e : ∀ t : Fin cfg3.N, win3_2.index t = ![0, (grid3.coords t 0).val, 0, 0] := (by decide +kernel : ∀ t : Fin grid3.N, _)
  blk_point [Gen.iblk3, e]

/-- The squeezed key input block of a grid point, read at a batch. -/
theorem block3 (c : Dev nD) (t : Fin cfg3.N) (b : Fin 2) (z : Fin 1) (i : Fin 292) (j : Fin 140) :
    Gen.iblk3 V c 3 t (ix4 b z i j) = V c main_v12 (ix4 b (grid3.coords t 0) i j) := by
  have e : ∀ t : Fin cfg3.N, win3_3.index t = ![0, (grid3.coords t 0).val, 0, 0] := (by decide +kernel : ∀ t : Fin grid3.N, _)
  blk_point [Gen.iblk3, e]

/-- The squeezed value input block of a grid point, read at a batch. -/
theorem block4 (c : Dev nD) (t : Fin cfg3.N) (b : Fin 2) (z : Fin 1) (i : Fin 292) (j : Fin 140) :
    Gen.iblk3 V c 4 t (ix4 b z i j) = V c main_v15 (ix4 b (grid3.coords t 0) i j) := by
  have e : ∀ t : Fin cfg3.N, win3_4.index t = ![0, (grid3.coords t 0).val, 0, 0] := (by decide +kernel : ∀ t : Fin grid3.N, _)
  blk_point [Gen.iblk3, e]

/-- The first squeeze weight block of a grid point is the whole array. -/
theorem block5 (c : Dev nD) (t : Fin cfg3.N) (i : Fin 10) (j : Fin 140) :
    Gen.iblk3 V c 5 t (ix2 i j) = V c main_arg8 (ix2 i j) := by
  have e : ∀ t : Fin cfg3.N, win3_5.index t = ![0, 0] := (by decide +kernel : ∀ t : Fin grid3.N, _)
  blk_point [Gen.iblk3, e]

/-- The first squeeze bias block of a grid point is the whole array. -/
theorem block6 (c : Dev nD) (t : Fin cfg3.N) (i : Fin 1) (j : Fin 10) :
    Gen.iblk3 V c 6 t (ix2 i j) = V c main_v19 (ix2 i j) := by
  have e : ∀ t : Fin cfg3.N, win3_6.index t = ![0, 0] := (by decide +kernel : ∀ t : Fin grid3.N, _)
  blk_point [Gen.iblk3, e]

/-- The second squeeze weight block of a grid point is the whole array. -/
theorem block7 (c : Dev nD) (t : Fin cfg3.N) (i : Fin 20) (j : Fin 10) :
    Gen.iblk3 V c 7 t (ix2 i j) = V c main_arg10 (ix2 i j) := by
  have e : ∀ t : Fin cfg3.N, win3_7.index t = ![0, 0] := (by decide +kernel : ∀ t : Fin grid3.N, _)
  blk_point [Gen.iblk3, e]

/-- The second squeeze bias block of a grid point is the whole array. -/
theorem block8 (c : Dev nD) (t : Fin cfg3.N) (i : Fin 1) (j : Fin 20) :
    Gen.iblk3 V c 8 t (ix2 i j) = V c main_v20 (ix2 i j) := by
  have e : ∀ t : Fin cfg3.N, win3_8.index t = ![0, 0] := (by decide +kernel : ∀ t : Fin grid3.N, _)
  blk_point [Gen.iblk3, e]

/-- The gate weight block of a grid point is the whole array. -/
theorem block9 (c : Dev nD) (t : Fin cfg3.N) (i : Fin 3) (j : Fin 20) :
    Gen.iblk3 V c 9 t (ix2 i j) = V c main_arg12 (ix2 i j) := by
  have e : ∀ t : Fin cfg3.N, win3_9.index t = ![0, 0] := (by decide +kernel : ∀ t : Fin grid3.N, _)
  blk_point [Gen.iblk3, e]

/-- The gate bias block of a grid point is the whole array. -/
theorem block10 (c : Dev nD) (t : Fin cfg3.N) (i : Fin 3) (j : Fin 1) :
    Gen.iblk3 V c 10 t (ix2 i j) = V c main_v21 (ix2 i j) := by
  have e : ∀ t : Fin cfg3.N, win3_10.index t = ![0, 0] := (by decide +kernel : ∀ t : Fin grid3.N, _)
  blk_point [Gen.iblk3, e]

theorem region3 (c : Dev nD) : (Gen.dat3 V c).arrAt 11 cfg3.N = made3 V c := by
  refine (Gen.dat3 V c).arrAt_eq_of_covers 11 _ (by decide +kernel) fun t hf y => ?_
  blk_simp
  rw [Gen.after3_11]
  have e11 : ∀ t : Fin cfg3.N, win3_11.index t = ![0, (grid3.coords t 0).val, 0, 0] := (by decide +kernel : ∀ t : Fin grid3.N, _)
  canon_tiles x h using Gen.cover3_11 _ _ _
  · change storedTwo _ _ _ _ _ _ _ _ _ _ _ x = _
    rw [stored_same]
    idx_vars x
    rw [stored_apply]
    unfold headOf made3
    pointwise [block0, block1, block2, block3, block4, block5, block6, block7, block8, block9, block10]
    blk_point [e11]
  · change storedOne _ _ _ _ _ _ _ _ _ _ _ x = _
    idx_vars x
    rw [stored_apply]
    unfold headOf made3
    pointwise [block0, block1, block2, block3, block4, block5, block6, block7, block8, block9, block10]
    blk_point [e11]

end Cert.Proof

end
-- ==== Proof.HostB.lean ====
/-
  What the attention call reads and leaves: heads cut from the projections, seven rows put side by side, and the heads'
  outputs.
-/
module

public import proofs.«01_k».proof.Proof.HostA
public import proofs.«01_k».proof.Proof.AttnCall

@[expose] public section

set_option maxRecDepth 16384

noncomputable section

namespace Cert.Proof

open Idealize.ShloMosaic Idealize.SL.Sem Cert.KernelIdeal Pipeline

variable (m : (ℓ : Loc nD τ sig) → Buf (Elt Ideal) ℓ) (ρ : Dev nD → PrngReg)

/-- The queries are kept until the attention call. -/
theorem q_kept (c : Dev nD) : Gen.W6 m ρ c (Proc.devRef .tc main_v2) = Gen.W2 m ρ c (Proc.devRef .tc main_v2) :=
  (Gen.W6_of m ρ c main_v2 (by decide)).trans ((Gen.W5_of m ρ c main_v2 (by decide)).trans
    ((Gen.W4_of m ρ c main_v2 (by decide)).trans (Gen.W3_of m ρ c main_v2 (by decide))))

/-- The keys are kept until the attention call. -/
theorem k_kept (c : Dev nD) : Gen.W6 m ρ c (Proc.devRef .tc main_v5) = Gen.W4 m ρ c (Proc.devRef .tc main_v5) :=
  (Gen.W6_of m ρ c main_v5 (by decide)).trans (Gen.W5_of m ρ c main_v5 (by decide))

/-- The attention call's queries. -/
theorem q_head (c : Dev nD) (b : Fin 2) (h : Fin 41) (d : Fin 20) (l : Fin 2044) :
    Gen.V7 m ρ c main_v16 (ix4 b h d l) = (argsK m c).q b h l d := by
  refine Eq.trans ?_ ((congrFun (q_kept m ρ c) _).trans (q_made m ρ c b (slot h d) l))
  change StableHlo.after Gen.hostOps3 _ _ _ = _
  after_reads_at
  rfl

/-- The attention call's keys. -/
theorem k_head (c : Dev nD) (b : Fin 2) (h : Fin 41) (d : Fin 20) (l : Fin 2044) :
    Gen.V7 m ρ c main_v17 (ix4 b h d l) = (argsK m c).k b h l d := by
  refine Eq.trans ?_ ((congrFun (k_kept m ρ c) _).trans (k_made m ρ c b (slot h d) l))
  change StableHlo.after Gen.hostOps3 _ _ _ = _
  after_reads_at
  rfl

/-- The attention call's values. -/
theorem v_head (c : Dev nD) (b : Fin 2) (h : Fin 41) (d : Fin 20) (l : Fin 2044) :
    Gen.V7 m ρ c main_v18 (ix4 b h d l) = (argsK m c).v b h l d := by
  refine Eq.trans ?_ (v_made m ρ c b (slot h d) l)
  change StableHlo.after Gen.hostOps3 _ _ _ = _
  after_reads_at
  rfl

/-- The attention call's keys, seven rows side by side. -/
theorem k_seven (c : Dev nD) (b : Fin 2) (h : Fin 41) (j : Fin 292) (p : Fin 140) :
    Gen.V7 m ρ c main_v12 (ix4 b h j p) = seven ((argsK m c).k b h) j p := by
  refine Eq.trans ?_ ((congrFun (k_kept m ρ c) _).trans (k_made m ρ c b
    (slot h ⟨p.val % 20, by omega⟩) ⟨7 * j.val + p.val / 20, by omega⟩))
  change StableHlo.after Gen.hostOps3 _ _ _ = _
  after_reads_at
  exact congrArg (fun t => Gen.W6 m ρ c (Proc.devRef .tc main_v5) (ix3 b (slot h ⟨p.val % 20, by omega⟩) t))
    (Fin.ext (congrArg (· + p.val / 20) (Nat.mul_comm _ _)))

/-- The attention call's values, seven rows side by side. -/
theorem v_seven (c : Dev nD) (b : Fin 2) (h : Fin 41) (j : Fin 292) (p : Fin 140) :
    Gen.V7 m ρ c main_v15 (ix4 b h j p) = seven ((argsK m c).v b h) j p := by
  refine Eq.trans ?_ (v_made m ρ c b (slot h ⟨p.val % 20, by omega⟩)
    ⟨7 * j.val + p.val / 20, by omega⟩)
  change StableHlo.after Gen.hostOps3 _ _ _ = _
  after_reads_at
  exact congrArg (fun t => Gen.W6 m ρ c (Proc.devRef .tc main_v9) (ix3 b (slot h ⟨p.val % 20, by omega⟩) t))
    (Fin.ext (congrArg (· + p.val / 20) (Nat.mul_comm _ _)))

/-- The first squeeze bias as a row. -/
theorem b1_row (c : Dev nD) (z : Fin 1) (r : Fin 10) : Gen.V7 m ρ c main_v19 (ix2 z r) = (argsK m c).b1 r := by
  change StableHlo.after Gen.hostOps3 _ _ _ = _
  after_reads_at
  exact congrFun (Gen.W6_args m ρ c main_arg9 (by decide)) _

/-- The second squeeze bias as a row. -/
theorem b2_row (c : Dev nD) (z : Fin 1) (d : Fin 20) : Gen.V7 m ρ c main_v20 (ix2 z d) = (argsK m c).b2 d := by
  change StableHlo.after Gen.hostOps3 _ _ _ = _
  after_reads_at
  exact congrFun (Gen.W6_args m ρ c main_arg11 (by decide)) _

/-- The gate bias as a column. -/
theorem bg_column (c : Dev nD) (g : Fin 3) (z : Fin 1) : Gen.V7 m ρ c main_v21 (ix2 g z) = (argsK m c).bg g := by
  change StableHlo.after Gen.hostOps3 _ _ _ = _
  after_reads_at
  exact congrFun (Gen.W6_args m ρ c main_arg13 (by decide)) _

/-- The attention call's result: every head's output. -/
theorem attention_made (c : Dev nD) (b : Fin 2) (h : Fin 41) (d : Fin 20) (l : Fin 2044) :
    Gen.W8 m ρ c (Proc.devRef .tc main_v22) (ix4 b h d l) = (argsK m c).out b h l d := by
  refine (congrFun ((Gen.W8_arr m ρ c 11).trans (region3 (Gen.V7 m ρ) c)) (ix4 b h d l)).trans ?_
  change head _ _ _ _ _ _ _ _ _ = _
  have hq : (fun l d => Gen.V7 m ρ c main_v16 (ix4 b h d l)) = (argsK m c).q b h :=
    funext fun l => funext fun d => q_head m ρ c b h d l
  have hk : (fun l d => Gen.V7 m ρ c main_v17 (ix4 b h d l)) = (argsK m c).k b h :=
    funext fun l => funext fun d => k_head m ρ c b h d l
  have hv : (fun l d => Gen.V7 m ρ c main_v18 (ix4 b h d l)) = (argsK m c).v b h :=
    funext fun l => funext fun d => v_head m ρ c b h d l
  have hk7 : (fun j p => Gen.V7 m ρ c main_v12 (ix4 b h j p)) = seven ((argsK m c).k b h) :=
    funext fun j => funext fun p => k_seven m ρ c b h j p
  have hv7 : (fun j p => Gen.V7 m ρ c main_v15 (ix4 b h j p)) = seven ((argsK m c).v b h) :=
    funext fun j => funext fun p => v_seven m ρ c b h j p
  have h1 : (fun r p => Gen.V7 m ρ c main_arg8 (ix2 r p)) = (argsK m c).W1 :=
    funext fun r => funext fun p => congrFun (Gen.W7_args m ρ c main_arg8 (by decide)) _
  have h2 : (fun d r => Gen.V7 m ρ c main_arg10 (ix2 d r)) = (argsK m c).W2 :=
    funext fun d => funext fun r => congrFun (Gen.W7_args m ρ c main_arg10 (by decide)) _
  have hg : (fun g d => Gen.V7 m ρ c main_arg12 (ix2 g d)) = (argsK m c).Wg :=
    funext fun g => funext fun d => congrFun (Gen.W7_args m ρ c main_arg12 (by decide)) _
  have c1 : (fun r => Gen.V7 m ρ c main_v19 (ix2 0 r)) = (argsK m c).b1 := funext fun r => b1_row m ρ c 0 r
  have c2 : (fun d => Gen.V7 m ρ c main_v20 (ix2 0 d)) = (argsK m c).b2 := funext fun d => b2_row m ρ c 0 d
  have cg : (fun g => Gen.V7 m ρ c main_v21 (ix2 g 0)) = (argsK m c).bg := funext fun g => bg_column m ρ c g 0
  have hkc := congr (congr (congr (congr (congrArg squeeze hk7) h1) c1) h2) c2
  have hvc := congr (congr (congr (congr (congrArg squeeze hv7) h1) c1) h2) c2
  exact congrFun (congrFun (congr (congr (congr (congr (congr (congr (congrArg head hq) hk) hv) hkc) hvc) hg) cg) l) d

end Cert.Proof

end
-- ==== Proof.Feed.lean ====
/-
  The feed-forward call: what it leaves in its result array, as a function of the arrays it reads.
-/
module

public import proofs.«01_k».proof.Proof.Gen.KernelIdeal.Frame
public import proofs.«01_k».proof.Proof.Model
public import Idealize.ShloMosaic.Lib.Pipeline.ValueKit

@[expose] public section

set_option maxRecDepth 16384

noncomputable section

namespace Cert.Proof

open Idealize.ShloMosaic Idealize.SL.Sem Cert.KernelIdeal Pipeline

variable (V : (c : Dev nD) → (b : Ref sig .tc) → Buf (Elt Ideal) ((c.tc : Thread nD τ).loc b))

/-- The stored value at row `r`, feature `e`: the feed-forward network on the row, plus the row. -/
theorem pay4_apply (x y : Vec Ideal S584x820 .f32) (w : Vec Ideal S1x820 .f32) (Wg Wu : Vec Ideal S820x2304 .bf16)
    (Wd : Vec Ideal S2304x820 .bf16) (r : Fin 584) (e : Fin 820) :
    Gen.k4_pay1 x y w Wg Wu Wd (ix2 r e)
      = feed (fun e => x (ix2 r e) + y (ix2 r e)) (fun e => w (ix2 0 e)) (fun f e => Wg (ix2 e f))
          (fun f e => Wu (ix2 e f)) (fun e f => Wd (ix2 f e)) e + (x (ix2 r e) + y (ix2 r e)) := by
  pointwise [Gen.k4_pay1, feed, normed, spread, width, small]

/-- The feed-forward call's result array at row and feature. -/
def made4 (c : Dev nD) : S4088x820.Idx → EReal := fun i =>
  feed (fun e => HAdd.hAdd (α := EReal) (β := EReal) (V c main_v26 (ix2 (i 0) e)) (V c main_v25 (ix2 (i 0) e))) (fun e => V c main_v33 (ix2 0 e))
      (fun f e => V c main_v28 (ix2 e f)) (fun f e => V c main_v30 (ix2 e f)) (fun e f => V c main_v32 (ix2 f e)) (i 1)
    + (HAdd.hAdd (α := EReal) (β := EReal) (V c main_v26 (ix2 (i 0) (i 1))) (V c main_v25 (ix2 (i 0) (i 1))))

/-- The feed-forward call leaves that array: each grid point writes its 584 rows. -/
theorem region4 (c : Dev nD) : (Gen.dat4 V c).arrAt 6 cfg4.N = made4 V c := by
  refine (Gen.dat4 V c).arrAt_eq_of_covers 6 _ (by decide +kernel) fun t hf y => ?_
  blk_simp
  rw [Gen.after4_6]
  frame_out
  idx_vars y
  rw [pay4_apply]
  have e0 : ∀ t : Fin cfg4.N, win4_0.index t = ![(grid4.coords t 0).val, 0] := (by decide +kernel : ∀ t : Fin grid4.N, _)
  have e1 : ∀ t : Fin cfg4.N, win4_1.index t = ![(grid4.coords t 0).val, 0] := (by decide +kernel : ∀ t : Fin grid4.N, _)
  have e2 : ∀ t : Fin cfg4.N, win4_2.index t = ![0, 0] := (by decide +kernel : ∀ t : Fin grid4.N, _)
  have e3 : ∀ t : Fin cfg4.N, win4_3.index t = ![0, 0] := (by decide +kernel : ∀ t : Fin grid4.N, _)
  have e4 : ∀ t : Fin cfg4.N, win4_4.index t = ![0, 0] := (by decide +kernel : ∀ t : Fin grid4.N, _)
  have e5 : ∀ t : Fin cfg4.N, win4_5.index t = ![0, 0] := (by decide +kernel : ∀ t : Fin grid4.N, _)
  have e6 : ∀ t : Fin cfg4.N, win4_6.index t = ![(grid4.coords t 0).val, 0] := (by decide +kernel : ∀ t : Fin grid4.N, _)
  unfold made4
  blk_point [Gen.iblk4, e0, e1, e2, e3, e4, e5, e6]

end Cert.Proof

end
-- ==== Proof.HostC.lean ====
/-
  The feed-forward call and the program's result.
-/
module

public import proofs.«01_k».proof.Proof.HostB
public import proofs.«01_k».proof.Proof.Feed

@[expose] public section

set_option maxRecDepth 16384

noncomputable section

namespace Cert.Proof

open Idealize.ShloMosaic Idealize.SL.Sem Cert.KernelIdeal Pipeline

variable (m : (ℓ : Loc nD τ sig) → Buf (Elt Ideal) ℓ) (ρ : Dev nD → PrngReg)

/-- The batch of a row among all rows. -/
def batchOf (r : Fin 4088) : Fin 2 := ⟨r.val / 2044, by omega⟩

/-- The place of a row within its batch. -/
def placeOf (r : Fin 4088) : Fin 2044 := ⟨r.val % 2044, by omega⟩

/-- The rows that the feed-forward call reads from the attention. -/
theorem rows_attention (c : Dev nD) (r : Fin 4088) (e : Fin 820) :
    Gen.V9 m ρ c main_v25 (ix2 r e)
      = (argsK m c).out (batchOf r) ⟨e.val / 20, by omega⟩ (placeOf r) ⟨e.val % 20, by omega⟩ := by
  refine Eq.trans ?_ (attention_made m ρ c (batchOf r) ⟨e.val / 20, by omega⟩ ⟨e.val % 20, by omega⟩ (placeOf r))
  change StableHlo.after Gen.hostOps4 _ _ _ = _
  after_reads_at
  rfl

/-- The rows that the feed-forward call reads from the input. -/
theorem rows_input (c : Dev nD) (r : Fin 4088) (e : Fin 820) :
    Gen.V9 m ρ c main_v26 (ix2 r e) = (argsK m c).x (batchOf r) (placeOf r) e := by
  change StableHlo.after Gen.hostOps4 _ _ _ = _
  after_reads_at
  exact congrFun (Gen.W8_args m ρ c main_arg0 (by decide)) _

/-- The second norm's weights as a row. -/
theorem mw_row (c : Dev nD) (z : Fin 1) (e : Fin 820) : Gen.V9 m ρ c main_v33 (ix2 z e) = (argsK m c).mw e := by
  change StableHlo.after Gen.hostOps4 _ _ _ = _
  after_reads_at
  exact congrFun (Gen.W8_args m ρ c main_arg14 (by decide)) _

/-- The first feed-forward matrix, transposed. -/
theorem wa_turned (c : Dev nD) (e : Fin 820) (f : Fin 2304) :
    Gen.V9 m ρ c main_v28 (ix2 e f) = (argsK m c).Wa f e := by
  change StableHlo.after Gen.hostOps4 _ _ _ = _
  after_reads_at
  exact congrFun (Gen.W8_args m ρ c main_arg15 (by decide)) _

/-- The second feed-forward matrix, transposed. -/
theorem wu_turned (c : Dev nD) (e : Fin 820) (f : Fin 2304) :
    Gen.V9 m ρ c main_v30 (ix2 e f) = (argsK m c).Wu f e := by
  change StableHlo.after Gen.hostOps4 _ _ _ = _
  after_reads_at
  exact congrFun (Gen.W8_args m ρ c main_arg16 (by decide)) _

/-- The last feed-forward matrix, transposed. -/
theorem wd_turned (c : Dev nD) (f : Fin 2304) (e : Fin 820) :
    Gen.V9 m ρ c main_v32 (ix2 f e) = (argsK m c).Wd e f := by
  change StableHlo.after Gen.hostOps4 _ _ _ = _
  after_reads_at
  exact congrFun (Gen.W8_args m ρ c main_arg17 (by decide)) _

/-- The feed-forward call's result: each row of the model's result. -/
theorem feed_made (c : Dev nD) (r : Fin 4088) (e : Fin 820) :
    Gen.W10 m ρ c (Proc.devRef .tc main_v34) (ix2 r e) = (argsK m c).result (batchOf r) (placeOf r) e := by
  refine (congrFun ((Gen.W10_arr m ρ c 6).trans (region4 (Gen.V9 m ρ) c)) (ix2 r e)).trans ?_
  have hm : ∀ e, HAdd.hAdd (α := EReal) (β := EReal) (Gen.V9 m ρ c main_v26 (ix2 r e)) (Gen.V9 m ρ c main_v25 (ix2 r e))
      = (argsK m c).mid (batchOf r) (placeOf r) e :=
    fun e => congr (congrArg HAdd.hAdd (rows_input m ρ c r e)) (rows_attention m ρ c r e)
  have hw : (fun e => Gen.V9 m ρ c main_v33 (ix2 0 e)) = (argsK m c).mw := funext fun e => mw_row m ρ c 0 e
  have ha : (fun f e => Gen.V9 m ρ c main_v28 (ix2 e f)) = (argsK m c).Wa :=
    funext fun f => funext fun e => wa_turned m ρ c e f
  have hu : (fun f e => Gen.V9 m ρ c main_v30 (ix2 e f)) = (argsK m c).Wu :=
    funext fun f => funext fun e => wu_turned m ρ c e f
  have hd : (fun e f => Gen.V9 m ρ c main_v32 (ix2 f e)) = (argsK m c).Wd :=
    funext fun e => funext fun f => wd_turned m ρ c f e
  have hf := congrFun (congr (congr (congr (congr (congrArg feed (funext hm)) hw) ha) hu) hd) e
  exact (congr (congrArg HAdd.hAdd hf) (hm e)).trans (add_comm (G := EReal) _ _)

/-- The kernel program's result array holds the model's result. -/
theorem kernel_result (c : Dev nD) (b : Fin 2) (l : Fin 2044) (e : Fin 820) :
    Gen.W11 m ρ c (Proc.devRef .tc main_v35) (ix3 b l e) = (argsK m c).result b l e := by
  have hb : batchOf ⟨b.val * 2044 + l.val, by omega⟩ = b := Fin.ext (by simp only [batchOf]; omega)
  have hl : placeOf ⟨b.val * 2044 + l.val, by omega⟩ = l := Fin.ext (by simp only [placeOf]; omega)
  refine Eq.trans ?_ ((feed_made m ρ c ⟨b.val * 2044 + l.val, by omega⟩ e).trans (by rw [hb, hl]))
  change StableHlo.after Gen.hostOps5 _ _ _ = _
  after_reads_at

end Cert.Proof

end
-- ==== Proof.KernelRun.lean ====
/-
  The kernel program's run: every buffer ends at the contents that the fold through the program gives it.
-/
module

public import proofs.«01_k».proof.Proof.HostC
public import Idealize.ShloMosaic.Adequacy
public import Idealize.ShloMosaic.Init

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

set_option backward.isDefEq.respectTransparency.types false in
/-- The program terminates without fault, and every buffer ends at its contents at the last boundary. -/
theorem kernel_run : θ_run (defs (F := Ideal)) (onTc (τ := τ) (main (F := Ideal))) ⟨m, fun _ => 0, ρ⟩ (fun r =>
    ∀ c : Dev nD, ∀ b ∈ Pipeline.ucRefs τ sig, r.2.mem (((c.tc : Thread nD τ)).1, b) = W11 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun _ h _ => h)

end Cert.Proof

end
-- ==== Proof.RefA.lean ====
/-
  The reference's arguments as arrays, and what its projections and squeezed keys and values hold.
-/
module

public import proofs.«01_k».proof.Proof.Gen.ReferenceIdeal.Read
public import proofs.«01_k».proof.Proof.Equation

@[expose] public section

set_option maxRecDepth 16384

noncomputable section

namespace Cert.Proof

open Idealize.ShloMosaic Cert.ReferenceIdeal Cert.ReferenceIdeal.Read

/-- A buffer of extended reals of a shape. -/
abbrev Real32 (s : Shape) : Type := (⟨s, .f32⟩ : BufTy).Contents (Elt Ideal)

/-! ## The arguments as arrays -/

namespace Args
variable (A : Args)

def a0 : Real32 S2x2044x820 := fun i => A.x (i 0) (i 1) (i 2)
def a1 : Real32 S820 := fun i => A.nw (i 0)
def a2 : Real32 S820x820 := fun i => A.Wq (i 0) (i 1)
def a3 : Real32 S820 := fun i => A.bq (i 0)
def a4 : Real32 S820x820 := fun i => A.Wk (i 0) (i 1)
def a5 : Real32 S820 := fun i => A.bk (i 0)
def a6 : Real32 S820x820 := fun i => A.Wv (i 0) (i 1)
def a7 : Real32 S820 := fun i => A.bv (i 0)
def a8 : Real32 S10x140 := fun i => A.W1 (i 0) (i 1)
def a9 : Real32 S10 := fun i => A.b1 (i 0)
def a10 : Real32 S20x10 := fun i => A.W2 (i 0) (i 1)
def a11 : Real32 S20 := fun i => A.b2 (i 0)
def a12 : Real32 S3x20 := fun i => A.Wg (i 0) (i 1)
def a13 : Real32 S3 := fun i => A.bg (i 0)
def a14 : Real32 S820 := fun i => A.mw (i 0)
def a15 : Real32 S2304x820 := fun i => A.Wa (i 0) (i 1)
def a16 : Real32 S2304x820 := fun i => A.Wu (i 0) (i 1)
def a17 : Real32 S820x2304 := fun i => A.Wd (i 0) (i 1)

end Args

variable (A : Args)

/-! ## Projections -/

/-- The normed rows. -/
theorem ref_normed (b : Fin 2) (l : Fin 2044) (e : Fin 820) :
    val_main_v12 (F := Ideal) A.a0 A.a1 (ix3 b l e) = normed (A.x b l) A.nw e := by
  rw [← normed_eq]
  pointwise [val_main_v12, val_main_v11, val_main_v10, val_main_v9, val_main_v8, val_main_v7, val_main_v6, val_main_v5,
    val_main_v4, val_main_v3, val_main_v2, val_main_v1, val_main_v0, val_main_cst, val_main_cst_0, val_main_cst_1,
    Args.a0, Args.a1, spread, width, small]

/-- A projection from the normed rows, whatever its matrix and bias. -/
theorem ref_project (W : Real32 S820x820) (z : Real32 S820) (b : Fin 2) (l : Fin 2044) (f : Fin 820) :
    val_main_v17 (F := Ideal) A.a0 A.a1 W z (ix3 b l f)
      = project (A.x b l) A.nw (fun f e => W (ix2 f e)) (fun f => z (ix1 f)) f := by
  pointwise [val_main_v17, val_main_v16, val_main_v15, val_main_v14, val_main_v13]
  simp only [ref_normed]
  rfl

/-- A projection by head. -/
theorem ref_heads (W : Real32 S820x820) (z : Real32 S820) (b : Fin 2) (h : Fin 41) (l : Fin 2044) (d : Fin 20) :
    val_main_v19 (F := Ideal) A.a0 A.a1 W z (ix4 b h l d)
      = project (A.x b l) A.nw (fun f e => W (ix2 f e)) (fun f => z (ix1 f)) (slot h d) := by
  refine Eq.trans ?_ (ref_project A W z b l (slot h d))
  pointwise [val_main_v19, val_main_v18]
  rfl

/-- The queries by head. -/
theorem ref_q (b : Fin 2) (h : Fin 41) (l : Fin 2044) (d : Fin 20) :
    val_main_v19 (F := Ideal) A.a0 A.a1 A.a2 A.a3 (ix4 b h l d) = A.q b h l d := ref_heads A _ _ b h l d

/-- The keys by head. -/
theorem ref_k (b : Fin 2) (h : Fin 41) (l : Fin 2044) (d : Fin 20) :
    val_main_v26 (F := Ideal) A.a0 A.a1 A.a4 A.a5 (ix4 b h l d) = A.k b h l d := ref_heads A A.a4 A.a5 b h l d

/-- The values by head. -/
theorem ref_v (b : Fin 2) (h : Fin 41) (l : Fin 2044) (d : Fin 20) :
    val_main_v33 (F := Ideal) A.a0 A.a1 A.a6 A.a7 (ix4 b h l d) = A.v b h l d := ref_heads A A.a6 A.a7 b h l d

/-! ## Squeezed keys and values -/

/-- Seven rows of a projection in a row. -/
theorem ref_seven (W : Real32 S820x820) (z : Real32 S820) (b : Fin 2) (h : Fin 41) (j : Fin 292) (p : Fin 140) :
    val_main_v34 (F := Ideal) A.a0 A.a1 W z (ix4 b h j p)
      = seven (fun l d => val_main_v19 (F := Ideal) A.a0 A.a1 W z (ix4 b h l d)) j p := by
  change val_main_v34 (F := Ideal) A.a0 A.a1 W z (ix4 b h j p)
    = val_main_v26 (F := Ideal) A.a0 A.a1 W z (ix4 b h ⟨7 * j.val + p.val / 20, by omega⟩ ⟨p.val % 20, by omega⟩)
  pointwise [val_main_v34]
  exact congrArg (fun t => val_main_v26 (F := Ideal) A.a0 A.a1 W z (ix4 b h t ⟨p.val % 20, by omega⟩))
    (Fin.ext (congrArg (· + p.val / 20) (Nat.mul_comm _ _)))

/-- The squeezed rows of a projection. -/
theorem ref_squeeze (W : Real32 S820x820) (z : Real32 S820) (b : Fin 2) (h : Fin 41) (j : Fin 292) (d : Fin 20) :
    val_main_v45 (F := Ideal) A.a0 A.a1 W z A.a8 A.a9 A.a10 A.a11 (ix4 b h j d)
      = squeeze (seven fun l d => val_main_v19 (F := Ideal) A.a0 A.a1 W z (ix4 b h l d)) A.W1 A.b1 A.W2 A.b2 j d := by
  pointwise [val_main_v45, val_main_v44, val_main_v43, val_main_v42, val_main_v41, val_main_v40, val_main_v39,
    val_main_v38, val_main_v37, val_main_v36, val_main_v35, val_main_call0_cst, val_main_call0_v0]
  simp only [ref_seven]
  rfl

/-- The squeezed keys. -/
theorem ref_kc (b : Fin 2) (h : Fin 41) (j : Fin 292) (d : Fin 20) :
    val_main_v45 (F := Ideal) A.a0 A.a1 A.a4 A.a5 A.a8 A.a9 A.a10 A.a11 (ix4 b h j d) = A.kc b h j d := by
  rw [ref_squeeze]
  exact congrArg (fun t => squeeze (seven t) A.W1 A.b1 A.W2 A.b2 j d) (funext fun l => funext fun d => ref_k A b h l d)

/-- The squeezed values. -/
theorem ref_vc (b : Fin 2) (h : Fin 41) (j : Fin 292) (d : Fin 20) :
    val_main_v57 (F := Ideal) A.a0 A.a1 A.a6 A.a7 A.a8 A.a9 A.a10 A.a11 (ix4 b h j d) = A.vc b h j d := by
  refine (ref_squeeze A A.a6 A.a7 b h j d).trans ?_
  exact congrArg (fun t => squeeze (seven t) A.W1 A.b1 A.W2 A.b2 j d) (funext fun l => funext fun d => ref_v A b h l d)

end Cert.Proof

end
-- ==== Proof.RefB.lean ====
/-
  The reference's attention to the squeezed keys, how much attention each of them gets, its attention to the last five
  keys, and its gates.
-/
module

public import proofs.«01_k».proof.Proof.RefA

@[expose] public section

set_option maxRecDepth 16384

noncomputable section

namespace Cert.Proof

open Idealize.ShloMosaic Cert.ReferenceIdeal Cert.ReferenceIdeal.Read

variable (A : Args)

/-- The pattern that the reference's maxima start from is minus infinity. -/
theorem start_bot : Ideal.ofBits .f32 0xFF800000#32 = ⊥ := by
  simp [Ideal.ofBits, Ideal.ieee]

/-- The pattern of one. -/
theorem start_one : Ideal.ofBits .f32 0x3F800000#32 = 1 := by
  simp [Ideal.ofBits, Ideal.ieee, -EReal.coe_mul]; norm_num

/-! ## Squeezed attention -/

/-- The scores of the squeezed keys. -/
theorem ref_scores (b : Fin 2) (h : Fin 41) (l : Fin 2044) (j : Fin 292) :
    val_main_v60 (F := Ideal) A.a0 A.a1 A.a2 A.a3 A.a4 A.a5 A.a8 A.a9 A.a10 A.a11 (ix4 b h l j)
      = scores (A.q b h l) (A.kc b h) j := by
  pointwise [val_main_v60, val_main_v59, val_main_v58, val_main_cst_2]
  simp only [ref_q, ref_kc]
  exact div_root _

/-- The softmax of the scores of the squeezed keys. -/
theorem ref_soft (b : Fin 2) (h : Fin 41) (l : Fin 2044) (j : Fin 292) :
    val_main_v71 (F := Ideal) A.a0 A.a1 A.a2 A.a3 A.a4 A.a5 A.a8 A.a9 A.a10 A.a11 (ix4 b h l j)
      = soft (scores (A.q b h l) (A.kc b h)) j := by
  pointwise [val_main_v71, val_main_v70, val_main_v69, val_main_v68, val_main_v67, val_main_v66, val_main_v65,
    val_main_v64, val_main_v63, val_main_v62, val_main_v61, val_main_cst_3, val_main_cst_4, val_main_cst_5]
  simp only [ref_scores, start_bot, start_one]
  rfl

/-- Attention to the squeezed keys. -/
theorem ref_attend (b : Fin 2) (h : Fin 41) (l : Fin 2044) (d : Fin 20) :
    val_main_v72 (F := Ideal) A.a0 A.a1 A.a2 A.a3 A.a4 A.a5 A.a6 A.a7 A.a8 A.a9 A.a10 A.a11 (ix4 b h l d)
      = attend (scores (A.q b h l) (A.kc b h)) (fun j => A.vc b h j d) := by
  pointwise [val_main_v72]
  simp only [ref_soft, ref_vc]
  rfl

/-- How much attention a squeezed key gets. -/
theorem ref_mass (b : Fin 2) (h : Fin 41) (j : Fin 292) :
    val_main_v87 (F := Ideal) A.a0 A.a1 A.a2 A.a3 A.a4 A.a5 A.a8 A.a9 A.a10 A.a11 (ix3 b h j)
      = mass (A.q b h) (A.kc b h) j := by
  pointwise [val_main_v87, val_main_cst_10]
  have e : val_main_v86 (F := Ideal) A.a0 A.a1 A.a2 A.a3 A.a4 A.a5 A.a8 A.a9 A.a10 A.a11
    = val_main_v71 (F := Ideal) A.a0 A.a1 A.a2 A.a3 A.a4 A.a5 A.a8 A.a9 A.a10 A.a11 := rfl
  simp only [e, ref_soft]
  rfl

/-! ## Window attention -/

/-- The scores of the last five keys. -/
theorem ref_late_scores (b : Fin 2) (h : Fin 41) (l : Fin 2044) (w : Fin 5) :
    val_main_v115 (F := Ideal) A.a0 A.a1 A.a2 A.a3 A.a4 A.a5 (ix4 b h l w)
      = scores (A.q b h l) (fun w => A.k b h (late w)) w := by
  pointwise [val_main_v115, val_main_v114, val_main_v113, val_main_v111, val_main_cst_15]
  simp only [ref_q, ref_k]
  exact div_root _

/-- The softmax of the scores of the last five keys. -/
theorem ref_late_soft (b : Fin 2) (h : Fin 41) (l : Fin 2044) (w : Fin 5) :
    val_main_v126 (F := Ideal) A.a0 A.a1 A.a2 A.a3 A.a4 A.a5 (ix4 b h l w)
      = soft (scores (A.q b h l) (fun w => A.k b h (late w))) w := by
  pointwise [val_main_v126, val_main_v125, val_main_v124, val_main_v123, val_main_v122, val_main_v121, val_main_v120,
    val_main_v119, val_main_v118, val_main_v117, val_main_v116, val_main_cst_16, val_main_cst_17, val_main_cst_18]
  simp only [ref_late_scores, start_bot, start_one]
  rfl

/-- Attention to the last five keys. -/
theorem ref_late_attend (b : Fin 2) (h : Fin 41) (l : Fin 2044) (d : Fin 20) :
    val_main_v127 (F := Ideal) A.a0 A.a1 A.a2 A.a3 A.a4 A.a5 A.a6 A.a7 (ix4 b h l d)
      = attend (scores (A.q b h l) fun w => A.k b h (late w)) (fun w => A.v b h (late w) d) := by
  pointwise [val_main_v127, val_main_v112]
  simp only [ref_late_soft, ref_v]
  rfl

/-! ## Gates -/

/-- The three gate scores. -/
theorem ref_gate (b : Fin 2) (h : Fin 41) (l : Fin 2044) (g : Fin 3) :
    val_main_v132 (F := Ideal) A.a0 A.a1 A.a2 A.a3 A.a12 A.a13 (ix4 b h l g) = gate (A.q b h l) A.Wg A.bg g := by
  pointwise [val_main_v132, val_main_v131, val_main_v130, val_main_v129, val_main_v128]
  simp only [ref_q]
  rfl

/-- The softmax of the gate scores. -/
theorem ref_gates (b : Fin 2) (h : Fin 41) (l : Fin 2044) (g : Fin 3) :
    val_main_v143 (F := Ideal) A.a0 A.a1 A.a2 A.a3 A.a12 A.a13 (ix4 b h l g)
      = soft (gate (A.q b h l) A.Wg A.bg) g := by
  pointwise [val_main_v143, val_main_v142, val_main_v141, val_main_v140, val_main_v139, val_main_v138, val_main_v137,
    val_main_v136, val_main_v135, val_main_v134, val_main_v133, val_main_cst_19, val_main_cst_20, val_main_cst_21]
  simp only [ref_gate, start_bot, start_one]
  rfl

end Cert.Proof

end
-- ==== Proof.TopK.lean ====
/-
  The reference's sixteen chosen blocks: a stable sort of the blocks by falling mass puts the block of rank `i` at
  place `i`.
-/
module

public import proofs.«01_k».proof.Proof.RefB
public import proofs.«01_k».proof.Proof.Rank
public import Idealize.ShloMosaic.Lib.SortPrefix

@[expose] public section

set_option maxRecDepth 16384

noncomputable section

namespace Cert.Proof

open Idealize.ShloMosaic Cert.ReferenceIdeal Cert.ReferenceIdeal.Read

/-- A stable sort of a rising list asks its relation only whether a later entry goes before an earlier one. -/
theorem stable_later {n : ℕ} (R R' : Fin n → Fin n → Bool) (l : List (Fin n)) (hl : l.Pairwise (· < ·))
    (h : ∀ a b, a < b → R b a = R' b a) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- So does the place it sends an entry to. -/
theorem from_later {n : ℕ} (R R' : Fin n → Fin n → Bool) (h : ∀ a b, a < b → R b a = R' b a) :
    sortedFrom R = sortedFrom R' := by
  have e : sortPositions n R = sortPositions n R' := stable_later R R' _ (List.pairwise_lt_finRange n) h
  funext k
  unfold sortedFrom
  simp only [List.get_eq_getElem, e]
  rfl

open Classical in
/-- Coming before, as a strict order of all blocks. -/
theorem before_strict (m : Fin 292 → EReal) : StrictTotalBefore fun i j => decide (Before m i j) where
  irrefl i := by simpa using not_before_self m i
  trans i j k h h' := by
    simp only [decide_eq_true_eq] at h h' ⊢
    exact Before.trans m h h'
  total i j h := by simpa using before_total m h

open Classical in
/-- Sorted by falling mass, place `i` among the first sixteen comes from the block of rank `i`. -/
theorem sorted_nth (m : Fin 292 → EReal) (R : Fin 292 → Fin 292 → Bool)
    (hR : ∀ i j, R i j = decide (m j < m i)) (i : Fin 16) :
    sortedFrom R (i.castLE (by omega)) = nth m i.val := by
  have hr : ∀ j : Fin 16, rank m (nth m j.val) = j.val := fun j => rank_nth m j.val (by omega)
  rw [from_later R (fun i j => decide (Before m i j)) fun a b hab => by
    rw [hR]
    refine decide_eq_decide.mpr ⟨.inl, ?_⟩
    rintro (h | ⟨-, h⟩)
    · exact h
    · exact absurd (hab : a.val < b.val) (by omega)]
  have hle : ∀ {p q : Fin 292}, rank m q ≤ rank m p → decide (Before m p q) = false := fun h => by
    simpa using fun hb => (rank_lt m hb).not_ge h
  refine (before_strict m).sortedFrom_eq_of_prefix (by omega) (fun j : Fin 16 => nth m j.val) (fun a b hab => ?_)
    (fun a b hab => ?_) (fun a p hp => ?_) i
  · have := congrArg (rank m) hab
    simp only [hr] at this
    exact Fin.ext this
  · refine hle ?_
    rw [hr, hr]
    exact (hab : a.val < b.val).le
  · refine hle ?_
    rw [hr]
    by_contra hlt
    exact hp ⟨rank m p, by omega⟩ ((rank_eq_iff m p _ (by omega)).mp rfl).symm

/-- The places that a top-of-sort reports, read at an index `j` of the result that is the index `J` of the operand. -/
theorem top_from {α : Type} {s t : Shape} (d : ℕ) (hd : d < s.rank) (gt : α → α → BitVec 1) (x : s.Idx → α)
    (hs : s.Slices (fun _ => 0) t) (j : t.Idx) (J : s.Idx)
    (hJ : ∀ a : Fin s.rank, (J a).val = 0 + (j (a.cast hs.1.symm)).val) :
    (Host.topK t d gt x hs).2 j = BitVec.ofNat 32 (sortedFrom (fun k k' =>
      gt (x (J.along ⟨d, hd⟩ k)) (x (J.along ⟨d, hd⟩ k')) == 1#1) (J ⟨d, hd⟩)).val := by
  unfold Host.topK Host.sort2
  dsimp only
  rw [extractStridedSlice_apply _ _ hs j J hJ, dif_pos hd]
  dsimp only
  rw [dif_pos hd]
  unfold iotaInDim Shape.Idx.along
  rw [Function.update_self]

/-- Where the first sixteen of a falling sort along the last of three axes come from. -/
theorem top_nth (x : Real32 S2x41x292) (hs : S2x41x292.Slices (fun _ => 0) S2x41x16) (b : Fin 2) (h : Fin 41)
    (i : Fin 16) :
    (Host.topK S2x41x16 2 (FloatOps.cmpfTotal (F := Ideal) (φ := .f32) .gt) x hs).2 (ix3 b h i)
      = BitVec.ofNat 32 (nth (fun j => x (ix3 b h j)) i.val).val := by
  have place : ∀ (h2 : 2 < 3) (k : Fin 292), Shape.Idx.along (s := S2x41x292) (ix3 b h (i.castLE (by omega))) ⟨2, h2⟩ k
      = ix3 b h k := fun h2 k => by
    funext a
    match a with
    | ⟨0, _⟩ => rfl
    | ⟨1, _⟩ => rfl
    | ⟨2, _⟩ => rfl
  rw [top_from 2 (by decide) _ x hs (ix3 b h i) (ix3 b h (i.castLE (by omega))) fun a => by
    match a with
    | ⟨0, _⟩ => exact (Nat.zero_add _).symm
    | ⟨1, _⟩ => exact (Nat.zero_add _).symm
    | ⟨2, _⟩ => exact (Nat.zero_add _).symm]
  refine congrArg (fun k : Fin 292 => BitVec.ofNat 32 k.val) (sorted_nth (fun j => x (ix3 b h j)) _ (fun k k' => ?_) i)
  rw [place, place]
  change (Ideal.cmp .ogt (x (ix3 b h k)) (x (ix3 b h k')) == 1#1) = _
  by_cases hlt : x (ix3 b h k') < x (ix3 b h k) <;> simp [Ideal.cmp, hlt]

/-- The reference's chosen blocks are those of the first sixteen ranks. -/
theorem ref_chosen (A : Args) (b : Fin 2) (h : Fin 41) (i : Fin 16) :
    val_main_indices (F := Ideal) A.a0 A.a1 A.a2 A.a3 A.a4 A.a5 A.a8 A.a9 A.a10 A.a11 (ix3 b h i)
      = BitVec.ofNat 32 (nth (mass (A.q b h) (A.kc b h)) i.val).val := by
  refine (top_nth _ _ b h i).trans ?_
  simp only [ref_mass]

end Cert.Proof

end
-- ==== Proof.Take.lean ====
/-
  The reference's choice of keys and values: it takes from a table of 1022 pairs of rows the sixteen whose numbers the
  chosen blocks give, and lays them out as 32 rows.
-/
module

public import proofs.«01_k».proof.Proof.TopK
public import Idealize.ShloMosaic.Lib.DynamicIndex
public import Idealize.ShloMosaic.Lib.ReduceAll

@[expose] public section

set_option maxRecDepth 16384

noncomputable section

namespace Cert.Proof

open Idealize.ShloMosaic Cert.ReferenceIdeal Cert.ReferenceIdeal.Gen Cert.ReferenceIdeal.Read

variable (A : Args)

/-- The block of rank `i` for a head of a batch. -/
def chosen (b : Fin 2) (h : Fin 41) (i : Fin 16) : Fin 292 := nth (mass (A.q b h) (A.kc b h)) i.val

/-- The row number that the reference takes at each place: no number is negative, so none is moved. -/
theorem ref_word (b : Fin 2) (h : Fin 41) (i : Fin 16) (s : Fin 2) (e : Fin 20) :
    val_main_call2_v4 (F := Ideal) A.a0 A.a1 A.a2 A.a3 A.a4 A.a5 A.a8 A.a9 A.a10 A.a11 (ix5 b h i s e)
      = BitVec.ofNat 32 (chosen A b h i).val := by
  have w : val_main_v91 (F := Ideal) A.a0 A.a1 A.a2 A.a3 A.a4 A.a5 A.a8 A.a9 A.a10 A.a11 (ix5 b h i s e)
      = BitVec.ofNat 32 (chosen A b h i).val := by
    pointwise [val_main_v91, val_main_v90]
    exact ref_chosen A b h i
  refine (select_slt_zero_of_nonneg _ _ _ _ ?_).trans w
  rw [w, toInt_ofNat_of_lt (by omega)]
  omega

/-- The same, with a last axis of one. -/
theorem ref_word_last (b : Fin 2) (h : Fin 41) (i : Fin 16) (s : Fin 2) (e : Fin 20) (z : Fin 1) :
    val_main_call2_v5 (F := Ideal) A.a0 A.a1 A.a2 A.a3 A.a4 A.a5 A.a8 A.a9 A.a10 A.a11 (ix6 b h i s e z)
      = BitVec.ofNat 32 (chosen A b h i).val := by
  refine (shapeCast_apply _ _ (ix6 b h i s e z) (ix5 b h i s e) ?_).trans (ref_word A b h i s e)
  rw [Shape.rowMajor_val_five, Shape.rowMajor_val_six]
  change (((b.val * 41 + h.val) * 16 + i.val) * 2 + s.val) * 20 + e.val
    = ((((b.val * 41 + h.val) * 16 + i.val) * 2 + s.val) * 20 + e.val) * 1 + z.val
  omega

/-- Each row number is within the table. -/
theorem ref_word_within (b : Fin 2) (h : Fin 41) (i : Fin 16) (s : Fin 2) (e : Fin 20) (z : Fin 1) :
    val_main_call2_v11 (F := Ideal) A.a0 A.a1 A.a2 A.a3 A.a4 A.a5 A.a8 A.a9 A.a10 A.a11 (ix6 b h i s e z) = 1#1 := by
  change IntOp.andi (IntOp.cmpi .sge (val_main_call2_v5 (F := Ideal) A.a0 A.a1 A.a2 A.a3 A.a4 A.a5 A.a8 A.a9 A.a10 A.a11
      (ix6 b h i s e z)) 0#32)
    (IntOp.cmpi .sle (val_main_call2_v5 (F := Ideal) A.a0 A.a1 A.a2 A.a3 A.a4 A.a5 A.a8 A.a9 A.a10 A.a11
      (ix6 b h i s e z)) 1021#32) = 1#1
  rw [ref_word_last]
  generalize chosen A b h i = r
  have hr := toInt_ofNat_of_lt (k := r.val) (by omega)
  have hl : (BitVec.ofNat 32 r.val).sle 1021#32 = true := by
    rw [BitVec.sle, hr]
    exact decide_eq_true (by change (r.val : ℤ) ≤ 1021; omega)
  have hg : (0#32).sle (BitVec.ofNat 32 r.val) = true := by
    rw [BitVec.sle, hr]
    exact decide_eq_true (by change (0 : ℤ) ≤ r.val; omega)
  simp [IntOp.andi, IntOp.cmpi, hl, hg]

/-- So nothing is masked. -/
theorem ref_within (J : S2x41x16x2x20.Idx) :
    val_main_call2_v12 (F := Ideal) A.a0 A.a1 A.a2 A.a3 A.a4 A.a5 A.a8 A.a9 A.a10 A.a11 J = 1#1 :=
  Host.reduce_andi_one _ _ _ _ J rfl fun I =>
    (congrArg _ (eq_ix6 I)).trans (ref_word_within A (I 0) (I 1) (I 2) (I 3) (I 4) (I 5))

/-- What taking rows reads: the row whose number stands at the place, cut to the table. -/
theorem take_row {α : Type} (x : S2x41x1022x2x20.Idx → α) (w : IVec S2x41x16x2x20x1 32) (b : Fin 2) (h : Fin 41)
    (i : Fin 16) (s : Fin 2) (e : Fin 20) :
    Host.gather gather_S2x41x1022x2x20_S2x41x16x2x20x1_S2x41x16x2x20_n_2_0134_0134_2_5_11111 x w (ix5 b h i s e)
      = x (ix5 b h ⟨min (w (ix6 b h i s e 0)).toInt.toNat 1021, by omega⟩ s e) := by
  refine congrArg x (funext fun a => Fin.ext ?_)
  change GatherDims.start _ (ix5 b h i s e) w a + GatherDims.batchCoord _ (ix5 b h i s e) a
    + GatherDims.offCoord _ (ix5 b h i s e) a = _
  have kept : ∀ a, a ∉ GatherDims.sKept
      gather_S2x41x1022x2x20_S2x41x16x2x20x1_S2x41x16x2x20_n_2_0134_0134_2_5_11111 := by decide
  rw [GatherDims.offCoord_eq_zero _ _ _ (kept a), Nat.add_zero]
  by_cases ha : a = 2
  · subst ha
    rw [GatherDims.batchCoord_eq_zero _ _ _ (by decide), Nat.add_zero]
    unfold GatherDims.start
    rw [dif_pos (by decide)]
    refine congrArg (fun I => min (w I).toInt.toNat 1021) (funext fun c => Fin.ext ?_)
    match c with
    | ⟨0, _⟩ => rfl
    | ⟨1, _⟩ => rfl
    | ⟨2, _⟩ => rfl
    | ⟨3, _⟩ => rfl
    | ⟨4, _⟩ => rfl
    | ⟨5, _⟩ => rfl
  · have hb : a ∈ GatherDims.operandBatchingDims
        gather_S2x41x1022x2x20_S2x41x16x2x20x1_S2x41x16x2x20_n_2_0134_0134_2_5_11111 := by
      revert ha
      revert a
      decide
    rw [GatherDims.start_batching _ _ _ _ hb, Nat.zero_add]
    unfold GatherDims.batchCoord
    rw [dif_pos hb]
    match a, ha with
    | ⟨0, _⟩, _ => rfl
    | ⟨1, _⟩, _ => rfl
    | ⟨2, _⟩, ha => exact absurd rfl ha
    | ⟨3, _⟩, _ => rfl
    | ⟨4, _⟩, _ => rfl

/-- Rows taken under a mask that is open, by a row number within the table. -/
theorem take_open {α : Type} (c : IVec S2x41x16x2x20 1) (x : S2x41x1022x2x20.Idx → α)
    (w : IVec S2x41x16x2x20x1 32) (y : S2x41x16x2x20.Idx → α) (b : Fin 2) (h : Fin 41) (i : Fin 16) (s : Fin 2)
    (e : Fin 20) (r : Fin 292) (hc : c (ix5 b h i s e) = 1#1) (hw : w (ix6 b h i s e 0) = BitVec.ofNat 32 r.val) :
    select c (Host.gather gather_S2x41x1022x2x20_S2x41x16x2x20x1_S2x41x16x2x20_n_2_0134_0134_2_5_11111 x w) y
        (ix5 b h i s e)
      = x (ix5 b h ⟨r.val, by omega⟩ s e) := by
  unfold select
  rw [hc, take_row]
  refine congrArg (fun r => x (ix5 b h r s e)) (Fin.ext ?_)
  change min (w (ix6 b h i s e 0)).toInt.toNat 1021 = r.val
  rw [hw, toInt_ofNat_of_lt (by omega)]
  change min r.val 1021 = r.val
  omega

/-- Keys of the chosen blocks: the rows of `pick`. -/
theorem ref_chosen_k (b : Fin 2) (h : Fin 41) (n : Fin 32) (e : Fin 20) :
    val_main_v93 (F := Ideal) A.a0 A.a1 A.a2 A.a3 A.a4 A.a5 A.a8 A.a9 A.a10 A.a11 (ix4 b h n e)
      = A.k b h (pick (mass (A.q b h) (A.kc b h)) n) e := by
  pointwise [val_main_v93]
  refine (take_open _ (val_main_v88 (F := Ideal) A.a0 A.a1 A.a4 A.a5) _ _ b h _ _ e _ (ref_within A _)
    (ref_word_last A b h _ _ e 0)).trans ?_
  pointwise [val_main_v88]
  rw [ref_k]
  exact congrArg (fun r => A.k b h r e) (Fin.ext (congrArg (· + n.val % 2) (Nat.mul_comm _ _)))

/-- Values of the chosen blocks. -/
theorem ref_chosen_v (b : Fin 2) (h : Fin 41) (n : Fin 32) (e : Fin 20) :
    val_main_v95 (F := Ideal) A.a0 A.a1 A.a2 A.a3 A.a4 A.a5 A.a6 A.a7 A.a8 A.a9 A.a10 A.a11 (ix4 b h n e)
      = A.v b h (pick (mass (A.q b h) (A.kc b h)) n) e := by
  pointwise [val_main_v95]
  refine (take_open _ (val_main_v89 (F := Ideal) A.a0 A.a1 A.a6 A.a7) _ _ b h _ _ e _ (ref_within A _)
    (ref_word_last A b h _ _ e 0)).trans ?_
  pointwise [val_main_v89]
  rw [ref_v]
  exact congrArg (fun r => A.v b h r e) (Fin.ext (congrArg (· + n.val % 2) (Nat.mul_comm _ _)))

end Cert.Proof

end
-- ==== Proof.RefC.lean ====
/-
  The reference's attention to the rows of the chosen blocks, and the three attentions put together.
-/
module

public import proofs.«01_k».proof.Proof.Take

@[expose] public section

set_option maxRecDepth 16384

noncomputable section

namespace Cert.Proof

open Idealize.ShloMosaic Cert.ReferenceIdeal Cert.ReferenceIdeal.Read

variable (A : Args)

/-- The scores of the chosen keys. -/
theorem ref_pick_scores (b : Fin 2) (h : Fin 41) (l : Fin 2044) (n : Fin 32) :
    val_main_v98 (F := Ideal) A.a0 A.a1 A.a2 A.a3 A.a4 A.a5 A.a8 A.a9 A.a10 A.a11 (ix4 b h l n)
      = scores (A.q b h l) (fun n => A.k b h (pick (mass (A.q b h) (A.kc b h)) n)) n := by
  pointwise [val_main_v98, val_main_v97, val_main_v96, val_main_cst_11]
  simp only [ref_q, ref_chosen_k]
  exact div_root _

/-- The softmax of the scores of the chosen keys. -/
theorem ref_pick_soft (b : Fin 2) (h : Fin 41) (l : Fin 2044) (n : Fin 32) :
    val_main_v109 (F := Ideal) A.a0 A.a1 A.a2 A.a3 A.a4 A.a5 A.a8 A.a9 A.a10 A.a11 (ix4 b h l n)
      = soft (scores (A.q b h l) (fun n => A.k b h (pick (mass (A.q b h) (A.kc b h)) n))) n := by
  pointwise [val_main_v109, val_main_v108, val_main_v107, val_main_v106, val_main_v105, val_main_v104, val_main_v103,
    val_main_v102, val_main_v101, val_main_v100, val_main_v99, val_main_cst_12, val_main_cst_13, val_main_cst_14]
  simp only [ref_pick_scores, start_bot, start_one]
  rfl

/-- Attention to the chosen keys. -/
theorem ref_pick_attend (b : Fin 2) (h : Fin 41) (l : Fin 2044) (d : Fin 20) :
    val_main_v110 (F := Ideal) A.a0 A.a1 A.a2 A.a3 A.a4 A.a5 A.a6 A.a7 A.a8 A.a9 A.a10 A.a11 (ix4 b h l d)
      = attend (scores (A.q b h l) fun n => A.k b h (pick (mass (A.q b h) (A.kc b h)) n))
          (fun n => A.v b h (pick (mass (A.q b h) (A.kc b h)) n) d) := by
  pointwise [val_main_v110]
  simp only [ref_pick_soft, ref_chosen_v]
  rfl

/-- The three attentions, each weighed by its gate. -/
theorem ref_out (b : Fin 2) (h : Fin 41) (l : Fin 2044) (d : Fin 20) :
    val_main_v154 (F := Ideal) A.a0 A.a1 A.a2 A.a3 A.a4 A.a5 A.a6 A.a7 A.a8 A.a9 A.a10 A.a11 A.a12 A.a13 (ix4 b h l d)
      = A.out b h l d := by
  pointwise [val_main_v154, val_main_v153, val_main_v152, val_main_v151, val_main_v150, val_main_v149, val_main_v148,
    val_main_v147, val_main_v146, val_main_v145, val_main_v144]
  simp only [ref_gates, ref_attend, ref_pick_attend, ref_late_attend]
  rfl

/-- The heads laid side by side and added to the input. -/
theorem ref_mid (b : Fin 2) (l : Fin 2044) (e : Fin 820) :
    val_main_v157 (F := Ideal) A.a0 A.a1 A.a2 A.a3 A.a4 A.a5 A.a6 A.a7 A.a8 A.a9 A.a10 A.a11 A.a12 A.a13 (ix3 b l e)
      = A.mid b l e := by
  pointwise [val_main_v157, val_main_v156, val_main_v155]
  simp only [ref_out]
  rfl

end Cert.Proof

end
-- ==== Proof.RefD.lean ====
/-
  The reference's feed-forward part, and its result.
-/
module

public import proofs.«01_k».proof.Proof.RefC

@[expose] public section

set_option maxRecDepth 16384

noncomputable section

namespace Cert.Proof

open Idealize.ShloMosaic Cert.ReferenceIdeal Cert.ReferenceIdeal.Read

variable (A : Args)

/-- The second norm. -/
theorem ref_mid_normed (b : Fin 2) (l : Fin 2044) (e : Fin 820) :
    val_main_v170 (F := Ideal) A.a0 A.a1 A.a2 A.a3 A.a4 A.a5 A.a6 A.a7 A.a8 A.a9 A.a10 A.a11 A.a12 A.a13 A.a14
        (ix3 b l e)
      = normed (A.mid b l) A.mw e := by
  rw [← normed_eq]
  pointwise [val_main_v170, val_main_v169, val_main_v168, val_main_v167, val_main_v166, val_main_v165, val_main_v164,
    val_main_v163, val_main_v162, val_main_v161, val_main_v160, val_main_v159, val_main_v158, val_main_cst_22,
    val_main_cst_23, val_main_cst_24]
  simp only [ref_mid]
  rfl

/-- The gate rows of the feed-forward part. -/
theorem ref_rise (b : Fin 2) (l : Fin 2044) (f : Fin 2304) :
    val_main_v172 (F := Ideal) A.a0 A.a1 A.a2 A.a3 A.a4 A.a5 A.a6 A.a7 A.a8 A.a9 A.a10 A.a11 A.a12 A.a13 A.a14 A.a15
        (ix3 b l f)
      = ∑ i : Fin 820, normed (A.mid b l) A.mw i * A.Wa f i := by
  pointwise [val_main_v172, val_main_v171]
  simp only [ref_mid_normed]
  rfl

/-- The other rows of the feed-forward part. -/
theorem ref_level (b : Fin 2) (l : Fin 2044) (f : Fin 2304) :
    val_main_v174 (F := Ideal) A.a0 A.a1 A.a2 A.a3 A.a4 A.a5 A.a6 A.a7 A.a8 A.a9 A.a10 A.a11 A.a12 A.a13 A.a14 A.a16
        (ix3 b l f)
      = ∑ i : Fin 820, normed (A.mid b l) A.mw i * A.Wu f i := by
  pointwise [val_main_v174, val_main_v173]
  simp only [ref_mid_normed]
  rfl

/-- The gated product of the two. -/
theorem ref_gated (b : Fin 2) (l : Fin 2044) (f : Fin 2304) :
    val_main_v182 (F := Ideal) A.a0 A.a1 A.a2 A.a3 A.a4 A.a5 A.a6 A.a7 A.a8 A.a9 A.a10 A.a11 A.a12 A.a13 A.a14 A.a15
        A.a16 (ix3 b l f)
      = (∑ i : Fin 820, normed (A.mid b l) A.mw i * A.Wa f i)
          * Ideal.logistic (∑ i : Fin 820, normed (A.mid b l) A.mw i * A.Wa f i)
          * ∑ i : Fin 820, normed (A.mid b l) A.mw i * A.Wu f i := by
  pointwise [val_main_v182, val_main_v181, val_main_v180, val_main_v179, val_main_v178, val_main_v177, val_main_v176,
    val_main_v175, val_main_cst_25, val_main_cst_26]
  simp only [ref_rise, ref_level, start_one]
  rfl

/-- The reference's result is the problem's. -/
theorem ref_result (b : Fin 2) (l : Fin 2044) (e : Fin 820) :
    val_main_v185 (F := Ideal) A.a0 A.a1 A.a2 A.a3 A.a4 A.a5 A.a6 A.a7 A.a8 A.a9 A.a10 A.a11 A.a12 A.a13 A.a14 A.a15
        A.a16 A.a17 (ix3 b l e)
      = A.result b l e := by
  pointwise [val_main_v185, val_main_v184, val_main_v183]
  simp only [ref_gated, ref_mid]
  rfl

end Cert.Proof

end
-- ==== Proof.RefRun.lean ====
/-
  The reference's run: from any arrays it ends with the problem's result of them.
-/
module

public import proofs.«01_k».proof.Proof.RefD
public import proofs.«01_k».proof.Proof.Gen.ReferenceIdeal.Run

@[expose] public section

set_option maxRecDepth 16384

noncomputable section

namespace Cert.Proof

open Idealize.ShloMosaic Idealize.ShloMosaic.TcCoe Idealize.SL.Sem
open Cert.ReferenceIdeal Cert.ReferenceIdeal.Gen Cert.ReferenceIdeal.Read

variable (x0 : Real32 S2x2044x820) (x1 : Real32 S820) (x2 : Real32 S820x820) (x3 : Real32 S820)
  (x4 : Real32 S820x820) (x5 : Real32 S820) (x6 : Real32 S820x820) (x7 : Real32 S820)
  (x8 : Real32 S10x140) (x9 : Real32 S10) (x10 : Real32 S20x10) (x11 : Real32 S20)
  (x12 : Real32 S3x20) (x13 : Real32 S3) (x14 : Real32 S820) (x15 : Real32 S2304x820)
  (x16 : Real32 S2304x820) (x17 : Real32 S820x2304)

/-- The problem's arguments from eighteen arrays. -/
def argsOf : Args where
  x a b c := x0 (ix3 a b c)
  nw a := x1 (ix1 a)
  Wq a b := x2 (ix2 a b)
  bq a := x3 (ix1 a)
  Wk a b := x4 (ix2 a b)
  bk a := x5 (ix1 a)
  Wv a b := x6 (ix2 a b)
  bv a := x7 (ix1 a)
  W1 a b := x8 (ix2 a b)
  b1 a := x9 (ix1 a)
  W2 a b := x10 (ix2 a b)
  b2 a := x11 (ix1 a)
  Wg a b := x12 (ix2 a b)
  bg a := x13 (ix1 a)
  mw a := x14 (ix1 a)
  Wa a b := x15 (ix2 a b)
  Wu a b := x16 (ix2 a b)
  Wd a b := x17 (ix2 a b)

/-- The reference's value at an index, whatever the arrays. -/
theorem ref_value (b : Fin 2) (l : Fin 2044) (e : Fin 820) :
    val_main_v185 (F := Ideal) x0 x1 x2 x3 x4 x5 x6 x7 x8 x9 x10 x11 x12 x13 x14 x15 x16 x17 (ix3 b l e)
      = (argsOf x0 x1 x2 x3 x4 x5 x6 x7 x8 x9 x10 x11 x12 x13 x14 x15 x16 x17).result b l e := by
  have h0 : x0 = (argsOf x0 x1 x2 x3 x4 x5 x6 x7 x8 x9 x10 x11 x12 x13 x14 x15 x16 x17).a0 := funext fun i => congrArg x0 (eq_ix3 i)
  have h1 : x1 = (argsOf x0 x1 x2 x3 x4 x5 x6 x7 x8 x9 x10 x11 x12 x13 x14 x15 x16 x17).a1 := funext fun i => congrArg x1 (eq_ix1 i)
  have h2 : x2 = (argsOf x0 x1 x2 x3 x4 x5 x6 x7 x8 x9 x10 x11 x12 x13 x14 x15 x16 x17).a2 := funext fun i => congrArg x2 (eq_ix2 i)
  have h3 : x3 = (argsOf x0 x1 x2 x3 x4 x5 x6 x7 x8 x9 x10 x11 x12 x13 x14 x15 x16 x17).a3 := funext fun i => congrArg x3 (eq_ix1 i)
  have h4 : x4 = (argsOf x0 x1 x2 x3 x4 x5 x6 x7 x8 x9 x10 x11 x12 x13 x14 x15 x16 x17).a4 := funext fun i => congrArg x4 (eq_ix2 i)
  have h5 : x5 = (argsOf x0 x1 x2 x3 x4 x5 x6 x7 x8 x9 x10 x11 x12 x13 x14 x15 x16 x17).a5 := funext fun i => congrArg x5 (eq_ix1 i)
  have h6 : x6 = (argsOf x0 x1 x2 x3 x4 x5 x6 x7 x8 x9 x10 x11 x12 x13 x14 x15 x16 x17).a6 := funext fun i => congrArg x6 (eq_ix2 i)
  have h7 : x7 = (argsOf x0 x1 x2 x3 x4 x5 x6 x7 x8 x9 x10 x11 x12 x13 x14 x15 x16 x17).a7 := funext fun i => congrArg x7 (eq_ix1 i)
  have h8 : x8 = (argsOf x0 x1 x2 x3 x4 x5 x6 x7 x8 x9 x10 x11 x12 x13 x14 x15 x16 x17).a8 := funext fun i => congrArg x8 (eq_ix2 i)
  have h9 : x9 = (argsOf x0 x1 x2 x3 x4 x5 x6 x7 x8 x9 x10 x11 x12 x13 x14 x15 x16 x17).a9 := funext fun i => congrArg x9 (eq_ix1 i)
  have h10 : x10 = (argsOf x0 x1 x2 x3 x4 x5 x6 x7 x8 x9 x10 x11 x12 x13 x14 x15 x16 x17).a10 := funext fun i => congrArg x10 (eq_ix2 i)
  have h11 : x11 = (argsOf x0 x1 x2 x3 x4 x5 x6 x7 x8 x9 x10 x11 x12 x13 x14 x15 x16 x17).a11 := funext fun i => congrArg x11 (eq_ix1 i)
  have h12 : x12 = (argsOf x0 x1 x2 x3 x4 x5 x6 x7 x8 x9 x10 x11 x12 x13 x14 x15 x16 x17).a12 := funext fun i => congrArg x12 (eq_ix2 i)
  have h13 : x13 = (argsOf x0 x1 x2 x3 x4 x5 x6 x7 x8 x9 x10 x11 x12 x13 x14 x15 x16 x17).a13 := funext fun i => congrArg x13 (eq_ix1 i)
  have h14 : x14 = (argsOf x0 x1 x2 x3 x4 x5 x6 x7 x8 x9 x10 x11 x12 x13 x14 x15 x16 x17).a14 := funext fun i => congrArg x14 (eq_ix1 i)
  have h15 : x15 = (argsOf x0 x1 x2 x3 x4 x5 x6 x7 x8 x9 x10 x11 x12 x13 x14 x15 x16 x17).a15 := funext fun i => congrArg x15 (eq_ix2 i)
  have h16 : x16 = (argsOf x0 x1 x2 x3 x4 x5 x6 x7 x8 x9 x10 x11 x12 x13 x14 x15 x16 x17).a16 := funext fun i => congrArg x16 (eq_ix2 i)
  have h17 : x17 = (argsOf x0 x1 x2 x3 x4 x5 x6 x7 x8 x9 x10 x11 x12 x13 x14 x15 x16 x17).a17 := funext fun i => congrArg x17 (eq_ix2 i)
  rw [← ref_result, ← h0, ← h1, ← h2, ← h3, ← h4, ← h5, ← h6, ← h7, ← h8, ← h9, ← h10, ← h11, ← h12, ← h13, ← h14, ← h15,
    ← h16, ← h17]

end Cert.Proof

end
-- ==== Proof.lean ====
/-
  The certificate. The kernel as compiled, the kernel over the extended reals and the reference all terminate and leave
  their arguments alone; naming the softmax's scale is a change that the naming rule allows; and over the extended
  reals kernel and reference end with the same array.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.RefRun
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- Over the extended reals, kernel and reference end with the same array from the same arguments. -/
theorem same_result : @Cert.algebraic_KernelIdeal_ReferenceIdeal Cert.KernelIdeal.Gen.facts Cert.ReferenceIdeal.Gen.facts := by
  intro m g m' g' _ hsame
  refine ⟨fun c => Cert.KernelIdeal.Gen.W11 m g c (Proc.devRef .tc Cert.KernelIdeal.main_v35), ?_, ?_⟩
  · refine (θ_run _ _ _).mono (fun r h c => ⟨h c _ (Cert.KernelIdeal.Gen.mem_uc Cert.KernelIdeal.main_v35 (by decide)),
      (h c _ (Cert.KernelIdeal.Gen.mem_uc Cert.KernelIdeal.main_arg0 (by decide))).trans
        (Cert.KernelIdeal.Gen.W11_main_arg0 m g c),
      (h c _ (Cert.KernelIdeal.Gen.mem_uc Cert.KernelIdeal.main_arg1 (by decide))).trans
        (Cert.KernelIdeal.Gen.W11_main_arg1 m g c),
      (h c _ (Cert.KernelIdeal.Gen.mem_uc Cert.KernelIdeal.main_arg2 (by decide))).trans
        (Cert.KernelIdeal.Gen.W11_main_arg2 m g c),
      (h c _ (Cert.KernelIdeal.Gen.mem_uc Cert.KernelIdeal.main_arg3 (by decide))).trans
        (Cert.KernelIdeal.Gen.W11_main_arg3 m g c),
      (h c _ (Cert.KernelIdeal.Gen.mem_uc Cert.KernelIdeal.main_arg4 (by decide))).trans
        (Cert.KernelIdeal.Gen.W11_main_arg4 m g c),
      (h c _ (Cert.KernelIdeal.Gen.mem_uc Cert.KernelIdeal.main_arg5 (by decide))).trans
        (Cert.KernelIdeal.Gen.W11_main_arg5 m g c),
      (h c _ (Cert.KernelIdeal.Gen.mem_uc Cert.KernelIdeal.main_arg6 (by decide))).trans
        (Cert.KernelIdeal.Gen.W11_main_arg6 m g c),
      (h c _ (Cert.KernelIdeal.Gen.mem_uc Cert.KernelIdeal.main_arg7 (by decide))).trans
        (Cert.KernelIdeal.Gen.W11_main_arg7 m g c),
      (h c _ (Cert.KernelIdeal.Gen.mem_uc Cert.KernelIdeal.main_arg8 (by decide))).trans
        (Cert.KernelIdeal.Gen.W11_main_arg8 m g c),
      (h c _ (Cert.KernelIdeal.Gen.mem_uc Cert.KernelIdeal.main_arg9 (by decide))).trans
        (Cert.KernelIdeal.Gen.W11_main_arg9 m g c),
      (h c _ (Cert.KernelIdeal.Gen.mem_uc Cert.KernelIdeal.main_arg10 (by decide))).trans
        (Cert.KernelIdeal.Gen.W11_main_arg10 m g c),
      (h c _ (Cert.KernelIdeal.Gen.mem_uc Cert.KernelIdeal.main_arg11 (by decide))).trans
        (Cert.KernelIdeal.Gen.W11_main_arg11 m g c),
      (h c _ (Cert.KernelIdeal.Gen.mem_uc Cert.KernelIdeal.main_arg12 (by decide))).trans
        (Cert.KernelIdeal.Gen.W11_main_arg12 m g c),
      (h c _ (Cert.KernelIdeal.Gen.mem_uc Cert.KernelIdeal.main_arg13 (by decide))).trans
        (Cert.KernelIdeal.Gen.W11_main_arg13 m g c),
      (h c _ (Cert.KernelIdeal.Gen.mem_uc Cert.KernelIdeal.main_arg14 (by decide))).trans
        (Cert.KernelIdeal.Gen.W11_main_arg14 m g c),
      (h c _ (Cert.KernelIdeal.Gen.mem_uc Cert.KernelIdeal.main_arg15 (by decide))).trans
        (Cert.KernelIdeal.Gen.W11_main_arg15 m g c),
      (h c _ (Cert.KernelIdeal.Gen.mem_uc Cert.KernelIdeal.main_arg16 (by decide))).trans
        (Cert.KernelIdeal.Gen.W11_main_arg16 m g c),
      (h c _ (Cert.KernelIdeal.Gen.mem_uc Cert.KernelIdeal.main_arg17 (by decide))).trans
        (Cert.KernelIdeal.Gen.W11_main_arg17 m g c)⟩) (kernel_run m g)
  · refine (θ_run _ _ _).mono (fun r h c => ⟨((h c).1.trans (Cert.ReferenceIdeal.Read.val_main_v185_eq _)).trans ?_,
      (h c).2⟩) (Cert.ReferenceIdeal.Value.run m' g')
    obtain ⟨h0, h1, h2, h3, h4, h5, h6, h7, h8, h9, h10, h11, h12, h13, h14, h15, h16, h17⟩ := hsame c
    have same := congr (congr (congr (congr (congr (congr (congr (congr (congr (congr (congr (congr (congr (congr (congr (congr (congr (congrArg argsOf h0) h1) h2) h3) h4) h5) h6) h7) h8) h9) h10) h11) h12) h13) h14) h15) h16) h17
    refine funext fun i => ?_
    refine (congrArg _ (eq_ix3 i)).trans ((ref_value _ _ _ _ _ _ _ _ _ _ _ _ _ _ _ _ _ _ _ _ _).trans ?_)
    refine Eq.trans ?_ ((kernel_result m g c (i 0) (i 1) (i 2)).symm.trans (congrArg _ (eq_ix3 i).symm))
    exact congrArg (fun A : Args => A.result (i 0) (i 1) (i 2)) same

/-- The reference terminates, leaves its arguments alone, and has no semaphores that could end above zero. -/
theorem reference_frame : @Cert.quiescent_ReferenceIdeal Cert.ReferenceIdeal.Gen.facts := fun m ρ _ =>
  (θ_run _ _ _).mono (fun r h => ⟨fun c => (h c).2, sem_eq_zero_of_no_sems (by decide) r.2⟩)
    (Cert.ReferenceIdeal.Value.run m ρ)

/-- The claims of the certificate. -/
theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    reference_frame,
    IdealRules.named_const.statement Cert.KernelIdeal.κ "s" .f32 0x3E64F92E#32 ((2097152 / 9378749 : ℝ) : EReal) rfl,
    same_result⟩

end Cert.Proof

end
